-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![65536, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2x1024x1024 : Shape := ⟨3, ![2, 1024, 1024]⟩
abbrev S7x1024x512 : Shape := ⟨3, ![7, 1024, 512]⟩
abbrev S8 : Shape := ⟨1, ![8]⟩
abbrev S7x2 : Shape := ⟨2, ![7, 2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1 : Shape := ⟨2, ![1, 1]⟩
abbrev S1x512x512 : Shape := ⟨3, ![1, 512, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .local _ .vmem, ⟨0, _⟩ => ⟨S8192x1024, .bf16⟩
  | .local _ .vmem, ⟨1, _⟩ => ⟨S2x1024x1024, .f32⟩
  | .local _ .vmem, ⟨2, _⟩ => ⟨S7x1024x512, .bf16⟩
  | .local _ .vmem, ⟨3, _⟩ => ⟨S7x1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  (ofTc nBuf bufTy 1 121 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v9 : BitVec 32 := Scalar.addi v2 c0_i32
  let c16_i32_5 : BitVec 32 := 16#32
  let v10 : BitVec 32 := Scalar.addi v9 c16_i32_5
  let c8_i32_6 : BitVec 32 := 8#32
  let v11 : BitVec 32 := Scalar.remsi v10 c8_i32_6
  let c1024_i32 : BitVec 32 := 1024#32
  let v12 : BitVec 32 := Scalar.muli v11 c1024_i32
  let c0_i32_11 : BitVec 32 := 0#32
  ![v12.toNat, 0]
def k0_off1_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_21 : BitVec 32 := 1#32
  let v28 : BitVec 32 := Scalar.muli v8 c1_i32_21
  let v29 : BitVec 32 := Scalar.addi c0_i32_22 v28
  v29.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_24 : BitVec 32 := 1#32
  let v30 : BitVec 32 := Scalar.muli v5 c1_i32_24
  let v31 : BitVec 32 := Scalar.addi c0_i32_25 v30
  v31.toNat
def k0_off2 (d0 : Dev nD) (c0_i32_40 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_35 : BitVec 32 := 16#32
  let v41 : BitVec 32 := Scalar.addi v2 c16_i32_35
  let c8_i32_36 : BitVec 32 := 8#32
  let v42 : BitVec 32 := Scalar.remsi v41 c8_i32_36
  let c1024_i32_39 : BitVec 32 := 1024#32
  let v46 : BitVec 32 := Scalar.muli v42 c1024_i32_39
  let v47 : BitVec 32 := Scalar.addi v46 c0_i32_40
  let v48 : Index := Scalar.indexCast v47
  let c0_41 : Index := 0#32
  ![v48.toNat, 0]
def k0_off3 (d0 : Dev nD) (c0_i32_42 : BitVec 32) (c0_i32_46 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : BitVec 32 := Scalar.subi v2 c0_i32_42
  let c16_i32_43 : BitVec 32 := 16#32
  let v51 : BitVec 32 := Scalar.addi v50 c16_i32_43
  let c8_i32_44 : BitVec 32 := 8#32
  let v52 : BitVec 32 := Scalar.remsi v51 c8_i32_44
  let c1024_i32_45 : BitVec 32 := 1024#32
  let v53 : BitVec 32 := Scalar.muli v52 c1024_i32_45
  let v54 : BitVec 32 := Scalar.addi v53 c0_i32_46
  let c0_i32_56 : BitVec 32 := 0#32
  ![v54.toNat, 0]
def k0_dev3 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_52 : BitVec 32 := 1#32
  let v55 : BitVec 32 := Scalar.muli v5 c1_i32_52
  let v56 : BitVec 32 := Scalar.addi c0_i32_53 v55
  v56.toNat
def k0_off4 (d0 : Dev nD) (c0_i32_57 : BitVec 32) (c0_i32_61 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v64 : BitVec 32 := Scalar.addi v2 c0_i32_57
  let c16_i32_58 : BitVec 32 := 16#32
  let v65 : BitVec 32 := Scalar.addi v64 c16_i32_58
  let c8_i32_59 : BitVec 32 := 8#32
  let v66 : BitVec 32 := Scalar.remsi v65 c8_i32_59
  let c1024_i32_60 : BitVec 32 := 1024#32
  let v67 : BitVec 32 := Scalar.muli v66 c1024_i32_60
  let v68 : BitVec 32 := Scalar.addi v67 c0_i32_61
  let c512_i32 : BitVec 32 := 512#32
  ![v68.toNat, 512]
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_67 : BitVec 32 := 1#32
  let v69 : BitVec 32 := Scalar.muli v8 c1_i32_67
  let v70 : BitVec 32 := Scalar.addi c0_i32_68 v69
  v70.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_86 : BitVec 32 := 1#32
  let v90 : BitVec 32 := Scalar.muli v5 c1_i32_86
  let v91 : BitVec 32 := Scalar.addi c0_i32_87 v90
  v91.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_101 : BitVec 32 := 1#32
  let v104 : BitVec 32 := Scalar.muli v8 c1_i32_101
  let v105 : BitVec 32 := Scalar.addi c0_i32_102 v104
  v105.toNat
def k0_off5 (d0 : Dev nD) (c_m1_i32_124 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v131 : BitVec 32 := Scalar.addi v2 c_m1_i32_124
  let c16_i32_125 : BitVec 32 := 16#32
  let v132 : BitVec 32 := Scalar.addi v131 c16_i32_125
  let c8_i32_126 : BitVec 32 := 8#32
  let v133 : BitVec 32 := Scalar.remsi v132 c8_i32_126
  let c1024_i32_129 : BitVec 32 := 1024#32
  let v137 : BitVec 32 := Scalar.muli v133 c1024_i32_129
  let v138 : Index := Scalar.indexCast v137
  let c0_130 : Index := 0#32
  ![v138.toNat, 0]
def k0_off5_at (r : Fin 7) : BitVec 32 :=
  if r.val < 3 then
    if r.val < 1 then
      4294967295#32
    else
      if r.val < 2 then
        1#32
      else
        4294967294#32
  else
    if r.val < 5 then
      if r.val < 4 then
        2#32
      else
        4294967293#32
    else
      if r.val < 6 then
        3#32
      else
        4#32
def k0_off6 (d0 : Dev nD) (c0_i32_163 : BitVec 32) (c0_i32_172 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v176 : BitVec 32 := Scalar.subi v2 c0_i32_163
  let c1_i32_164 : BitVec 32 := 1#32
  let v177 : BitVec 32 := Scalar.subi v176 c1_i32_164
  let c16_i32_165 : BitVec 32 := 16#32
  let v178 : BitVec 32 := Scalar.addi v177 c16_i32_165
  let c8_i32_166 : BitVec 32 := 8#32
  let v179 : BitVec 32 := Scalar.remsi v178 c8_i32_166
  let c1024_i32_171 : BitVec 32 := 1024#32
  let v184 : BitVec 32 := Scalar.muli v179 c1024_i32_171
  let v185 : BitVec 32 := Scalar.addi v184 c0_i32_172
  let v198 : Index := Scalar.indexCast v185
  let c0_188 : Index := 0#32
  ![v198.toNat, 0]
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_203 : BitVec 32 := 1#32
  let v211 : BitVec 32 := Scalar.muli v5 c1_i32_203
  let v212 : BitVec 32 := Scalar.addi c0_i32_204 v211
  v212.toNat
def k0_off7 (d0 : Dev nD) (c0_i32_167 : BitVec 32) (c0_i32_209 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v180 : BitVec 32 := Scalar.addi v2 c0_i32_167
  let c1_i32_168 : BitVec 32 := 1#32
  let v181 : BitVec 32 := Scalar.addi v180 c1_i32_168
  let c16_i32_169 : BitVec 32 := 16#32
  let v182 : BitVec 32 := Scalar.addi v181 c16_i32_169
  let c8_i32_170 : BitVec 32 := 8#32
  let v183 : BitVec 32 := Scalar.remsi v182 c8_i32_170
  let c1024_i32_208 : BitVec 32 := 1024#32
  let v220 : BitVec 32 := Scalar.muli v183 c1024_i32_208
  let v221 : BitVec 32 := Scalar.addi v220 c0_i32_209
  let v234 : Index := Scalar.indexCast v221
  let c512_225 : Index := 512#32
  ![v234.toNat, 512]
def k0_dev8 (d0 : Dev nD) : Nat :=
  let c0_i32_241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_240 : BitVec 32 := 1#32
  let v247 : BitVec 32 := Scalar.muli v8 c1_i32_240
  let v248 : BitVec 32 := Scalar.addi c0_i32_241 v247
  v248.toNat
def k0_dev9 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_277 : BitVec 32 := 1#32
  let v283 : BitVec 32 := Scalar.muli v5 c1_i32_277
  let v284 : BitVec 32 := Scalar.addi c0_i32_278 v283
  v284.toNat
def k0_dev10 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_314 : BitVec 32 := 1#32
  let v319 : BitVec 32 := Scalar.muli v8 c1_i32_314
  let v320 : BitVec 32 := Scalar.addi c0_i32_315 v319
  v320.toNat
def k0_dev11 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_383 : BitVec 32 := 1#32
  let v390 : BitVec 32 := Scalar.muli v5 c1_i32_383
  let v391 : BitVec 32 := Scalar.addi c0_i32_384 v390
  v391.toNat
def k0_dev12 (d0 : Dev nD) : Nat :=
  let c0_i32_446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_445 : BitVec 32 := 1#32
  let v453 : BitVec 32 := Scalar.muli v8 c1_i32_445
  let v454 : BitVec 32 := Scalar.addi c0_i32_446 v453
  v454.toNat
def k0_dev13 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_482 : BitVec 32 := 1#32
  let v489 : BitVec 32 := Scalar.muli v5 c1_i32_482
  let v490 : BitVec 32 := Scalar.addi c0_i32_483 v489
  v490.toNat
def k0_dev14 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_519 : BitVec 32 := 1#32
  let v525 : BitVec 32 := Scalar.muli v8 c1_i32_519
  let v526 : BitVec 32 := Scalar.addi c0_i32_520 v525
  v526.toNat
def k0_dev15 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_588 : BitVec 32 := 1#32
  let v596 : BitVec 32 := Scalar.muli v5 c1_i32_588
  let v597 : BitVec 32 := Scalar.addi c0_i32_589 v596
  v597.toNat
def k0_dev16 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_642 : BitVec 32 := 1#32
  let v650 : BitVec 32 := Scalar.muli v8 c1_i32_642
  let v651 : BitVec 32 := Scalar.addi c0_i32_643 v650
  v651.toNat
def k0_dev17 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_679 : BitVec 32 := 1#32
  let v686 : BitVec 32 := Scalar.muli v5 c1_i32_679
  let v687 : BitVec 32 := Scalar.addi c0_i32_680 v686
  v687.toNat
def k0_dev18 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_716 : BitVec 32 := 1#32
  let v722 : BitVec 32 := Scalar.muli v8 c1_i32_716
  let v723 : BitVec 32 := Scalar.addi c0_i32_717 v722
  v723.toNat
def k0_dev19 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_777 : BitVec 32 := 1#32
  let v784 : BitVec 32 := Scalar.muli v5 c1_i32_777
  let v785 : BitVec 32 := Scalar.addi c0_i32_778 v784
  v785.toNat
def k0_dev20 (d0 : Dev nD) : Nat :=
  let c0_i32_815 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_814 : BitVec 32 := 1#32
  let v820 : BitVec 32 := Scalar.muli v8 c1_i32_814
  let v821 : BitVec 32 := Scalar.addi c0_i32_815 v820
  v821.toNat
def k0_dev21 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_851 : BitVec 32 := 1#32
  let v856 : BitVec 32 := Scalar.muli v5 c1_i32_851
  let v857 : BitVec 32 := Scalar.addi c0_i32_852 v856
  v857.toNat
def k0_dev22 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_888 : BitVec 32 := 1#32
  let v892 : BitVec 32 := Scalar.muli v8 c1_i32_888
  let v893 : BitVec 32 := Scalar.addi c0_i32_889 v892
  v893.toNat
def k0_dev23 (d0 : Dev nD) : Nat :=
  let c0_i32_933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_932 : BitVec 32 := 1#32
  let v936 : BitVec 32 := Scalar.muli v5 c1_i32_932
  let v937 : BitVec 32 := Scalar.addi c0_i32_933 v936
  v937.toNat
def k0_dev24 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_969 : BitVec 32 := 1#32
  let v972 : BitVec 32 := Scalar.muli v8 c1_i32_969
  let v973 : BitVec 32 := Scalar.addi c0_i32_970 v972
  v973.toNat
def k0_dev25 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1006 : BitVec 32 := 1#32
  let v1008 : BitVec 32 := Scalar.muli v5 c1_i32_1006
  let v1009 : BitVec 32 := Scalar.addi c0_i32_1007 v1008
  v1009.toNat
def k0_dev26 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1043 : BitVec 32 := 1#32
  let v1044 : BitVec 32 := Scalar.muli v8 c1_i32_1043
  let v1045 : BitVec 32 := Scalar.addi c0_i32_1044 v1044
  v1045.toNat
def k0_dev27 (d0 : Dev nD) : Nat :=
  let c0_i32_1088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1087 : BitVec 32 := 1#32
  let v1088 : BitVec 32 := Scalar.muli v5 c1_i32_1087
  let v1089 : BitVec 32 := Scalar.addi c0_i32_1088 v1088
  v1089.toNat
def k0_dev28 (d0 : Dev nD) : Nat :=
  let c0_i32_1125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1124 : BitVec 32 := 1#32
  let v1124 : BitVec 32 := Scalar.muli v8 c1_i32_1124
  let v1125 : BitVec 32 := Scalar.addi c0_i32_1125 v1124
  v1125.toNat
def k0_dev29 (d0 : Dev nD) : Nat :=
  let c0_i32_1162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1161 : BitVec 32 := 1#32
  let v1160 : BitVec 32 := Scalar.muli v5 c1_i32_1161
  let v1161 : BitVec 32 := Scalar.addi c0_i32_1162 v1160
  v1161.toNat
def k0_dev30 (d0 : Dev nD) : Nat :=
  let c0_i32_1199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1198 : BitVec 32 := 1#32
  let v1196 : BitVec 32 := Scalar.muli v8 c1_i32_1198
  let v1197 : BitVec 32 := Scalar.addi c0_i32_1199 v1196
  v1197.toNat
def k0_off8 (d0 : Dev nD) (c0_i32_1233 : BitVec 32) (c0_i32_1237 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1232 : BitVec 32 := 1#32
  let v1235 : BitVec 32 := Scalar.addi v2 c1_i32_1232
  let v1236 : BitVec 32 := Scalar.subi v1235 c0_i32_1233
  let c16_i32_1234 : BitVec 32 := 16#32
  let v1237 : BitVec 32 := Scalar.addi v1236 c16_i32_1234
  let c8_i32_1235 : BitVec 32 := 8#32
  let v1238 : BitVec 32 := Scalar.remsi v1237 c8_i32_1235
  let c1024_i32_1236 : BitVec 32 := 1024#32
  let v1239 : BitVec 32 := Scalar.muli v1238 c1024_i32_1236
  let v1240 : BitVec 32 := Scalar.addi v1239 c0_i32_1237
  let c0_i32_1244 : BitVec 32 := 0#32
  ![v1240.toNat, 0]
def k0_dev31 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1242 : BitVec 32 := 1#32
  let v1241 : BitVec 32 := Scalar.muli v5 c1_i32_1242
  let v1242 : BitVec 32 := Scalar.addi c0_i32_1243 v1241
  v1242.toNat
def k0_off9 (d0 : Dev nD) (c0_i32_1269 : BitVec 32) (c0_i32_1273 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1268 : BitVec 32 := 1#32
  let v1271 : BitVec 32 := Scalar.subi v2 c1_i32_1268
  let v1272 : BitVec 32 := Scalar.addi v1271 c0_i32_1269
  let c16_i32_1270 : BitVec 32 := 16#32
  let v1273 : BitVec 32 := Scalar.addi v1272 c16_i32_1270
  let c8_i32_1271 : BitVec 32 := 8#32
  let v1274 : BitVec 32 := Scalar.remsi v1273 c8_i32_1271
  let c1024_i32_1272 : BitVec 32 := 1024#32
  let v1275 : BitVec 32 := Scalar.muli v1274 c1024_i32_1272
  let v1276 : BitVec 32 := Scalar.addi v1275 c0_i32_1273
  let c512_i32_1280 : BitVec 32 := 512#32
  ![v1276.toNat, 512]
def k0_dev32 (d0 : Dev nD) : Nat :=
  let c0_i32_1279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1278 : BitVec 32 := 1#32
  let v1277 : BitVec 32 := Scalar.muli v8 c1_i32_1278
  let v1278 : BitVec 32 := Scalar.addi c0_i32_1279 v1277
  v1278.toNat
def k0_dev33 (d0 : Dev nD) : Nat :=
  let c0_i32_1315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1314 : BitVec 32 := 1#32
  let v1313 : BitVec 32 := Scalar.muli v5 c1_i32_1314
  let v1314 : BitVec 32 := Scalar.addi c0_i32_1315 v1313
  v1314.toNat
def k0_dev34 (d0 : Dev nD) : Nat :=
  let c0_i32_1351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1350 : BitVec 32 := 1#32
  let v1349 : BitVec 32 := Scalar.muli v8 c1_i32_1350
  let v1350 : BitVec 32 := Scalar.addi c0_i32_1351 v1349
  v1350.toNat
def k0_dev35 (d0 : Dev nD) : Nat :=
  let c0_i32_1379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1378 : BitVec 32 := 1#32
  let v1375 : BitVec 32 := Scalar.muli v5 c1_i32_1378
  let v1376 : BitVec 32 := Scalar.addi c0_i32_1379 v1375
  v1376.toNat
def k0_dev36 (d0 : Dev nD) : Nat :=
  let c0_i32_1407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1406 : BitVec 32 := 1#32
  let v1401 : BitVec 32 := Scalar.muli v8 c1_i32_1406
  let v1402 : BitVec 32 := Scalar.addi c0_i32_1407 v1401
  v1402.toNat
def k0_dev37 (d0 : Dev nD) : Nat :=
  let c0_i32_1435 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1434 : BitVec 32 := 1#32
  let v1427 : BitVec 32 := Scalar.muli v5 c1_i32_1434
  let v1428 : BitVec 32 := Scalar.addi c0_i32_1435 v1427
  v1428.toNat
def k0_dev38 (d0 : Dev nD) : Nat :=
  let c0_i32_1463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1462 : BitVec 32 := 1#32
  let v1453 : BitVec 32 := Scalar.muli v8 c1_i32_1462
  let v1454 : BitVec 32 := Scalar.addi c0_i32_1463 v1453
  v1454.toNat
def k0_dev39 (d0 : Dev nD) : Nat :=
  let c0_i32_1491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1490 : BitVec 32 := 1#32
  let v1479 : BitVec 32 := Scalar.muli v5 c1_i32_1490
  let v1480 : BitVec 32 := Scalar.addi c0_i32_1491 v1479
  v1480.toNat
def k0_dev40 (d0 : Dev nD) : Nat :=
  let c0_i32_1519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1518 : BitVec 32 := 1#32
  let v1505 : BitVec 32 := Scalar.muli v8 c1_i32_1518
  let v1506 : BitVec 32 := Scalar.addi c0_i32_1519 v1505
  v1506.toNat
def k0_dev41 (d0 : Dev nD) : Nat :=
  let c0_i32_1547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1546 : BitVec 32 := 1#32
  let v1531 : BitVec 32 := Scalar.muli v5 c1_i32_1546
  let v1532 : BitVec 32 := Scalar.addi c0_i32_1547 v1531
  v1532.toNat
def k0_dev42 (d0 : Dev nD) : Nat :=
  let c0_i32_1575 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1574 : BitVec 32 := 1#32
  let v1557 : BitVec 32 := Scalar.muli v8 c1_i32_1574
  let v1558 : BitVec 32 := Scalar.addi c0_i32_1575 v1557
  v1558.toNat
def k0_dev43 (d0 : Dev nD) : Nat :=
  let c0_i32_1603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1602 : BitVec 32 := 1#32
  let v1583 : BitVec 32 := Scalar.muli v5 c1_i32_1602
  let v1584 : BitVec 32 := Scalar.addi c0_i32_1603 v1583
  v1584.toNat
def k0_dev44 (d0 : Dev nD) : Nat :=
  let c0_i32_1631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1630 : BitVec 32 := 1#32
  let v1609 : BitVec 32 := Scalar.muli v8 c1_i32_1630
  let v1610 : BitVec 32 := Scalar.addi c0_i32_1631 v1609
  v1610.toNat
def k0_dev45 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1658 : BitVec 32 := 1#32
  let v1635 : BitVec 32 := Scalar.muli v5 c1_i32_1658
  let v1636 : BitVec 32 := Scalar.addi c0_i32_1659 v1635
  v1636.toNat
def k0_dev46 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1686 : BitVec 32 := 1#32
  let v1661 : BitVec 32 := Scalar.muli v8 c1_i32_1686
  let v1662 : BitVec 32 := Scalar.addi c0_i32_1687 v1661
  v1662.toNat
def k0_dev47 (d0 : Dev nD) : Nat :=
  let c0_i32_1715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1714 : BitVec 32 := 1#32
  let v1687 : BitVec 32 := Scalar.muli v5 c1_i32_1714
  let v1688 : BitVec 32 := Scalar.addi c0_i32_1715 v1687
  v1688.toNat
def k0_dev48 (d0 : Dev nD) : Nat :=
  let c0_i32_1743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1742 : BitVec 32 := 1#32
  let v1713 : BitVec 32 := Scalar.muli v8 c1_i32_1742
  let v1714 : BitVec 32 := Scalar.addi c0_i32_1743 v1713
  v1714.toNat
def k0_dev49 (d0 : Dev nD) : Nat :=
  let c0_i32_1771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1770 : BitVec 32 := 1#32
  let v1739 : BitVec 32 := Scalar.muli v5 c1_i32_1770
  let v1740 : BitVec 32 := Scalar.addi c0_i32_1771 v1739
  v1740.toNat
def k0_dev50 (d0 : Dev nD) : Nat :=
  let c0_i32_1799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1798 : BitVec 32 := 1#32
  let v1765 : BitVec 32 := Scalar.muli v8 c1_i32_1798
  let v1766 : BitVec 32 := Scalar.addi c0_i32_1799 v1765
  v1766.toNat
def k0_dev51 (d0 : Dev nD) : Nat :=
  let c0_i32_1827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1826 : BitVec 32 := 1#32
  let v1791 : BitVec 32 := Scalar.muli v5 c1_i32_1826
  let v1792 : BitVec 32 := Scalar.addi c0_i32_1827 v1791
  v1792.toNat
def k0_dev52 (d0 : Dev nD) : Nat :=
  let c0_i32_1855 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1854 : BitVec 32 := 1#32
  let v1817 : BitVec 32 := Scalar.muli v8 c1_i32_1854
  let v1818 : BitVec 32 := Scalar.addi c0_i32_1855 v1817
  v1818.toNat
def k0_dev53 (d0 : Dev nD) : Nat :=
  let c0_i32_1883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1882 : BitVec 32 := 1#32
  let v1843 : BitVec 32 := Scalar.muli v5 c1_i32_1882
  let v1844 : BitVec 32 := Scalar.addi c0_i32_1883 v1843
  v1844.toNat
def k0_dev54 (d0 : Dev nD) : Nat :=
  let c0_i32_1911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1910 : BitVec 32 := 1#32
  let v1869 : BitVec 32 := Scalar.muli v8 c1_i32_1910
  let v1870 : BitVec 32 := Scalar.addi c0_i32_1911 v1869
  v1870.toNat
def k0_dev55 (d0 : Dev nD) : Nat :=
  let c0_i32_1939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1938 : BitVec 32 := 1#32
  let v1895 : BitVec 32 := Scalar.muli v5 c1_i32_1938
  let v1896 : BitVec 32 := Scalar.addi c0_i32_1939 v1895
  v1896.toNat
def k0_dev56 (d0 : Dev nD) : Nat :=
  let c0_i32_1967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_1966 : BitVec 32 := 1#32
  let v1921 : BitVec 32 := Scalar.muli v8 c1_i32_1966
  let v1922 : BitVec 32 := Scalar.addi c0_i32_1967 v1921
  v1922.toNat
def k0_dev57 (d0 : Dev nD) : Nat :=
  let c0_i32_1995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c16_i32 : BitVec 32 := 16#32
  let v4 : BitVec 32 := Scalar.addi v3 c16_i32
  let c8_i32_1 : BitVec 32 := 8#32
  let v5 : BitVec 32 := Scalar.remsi v4 c8_i32_1
  let c1_i32_1994 : BitVec 32 := 1#32
  let v1947 : BitVec 32 := Scalar.muli v5 c1_i32_1994
  let v1948 : BitVec 32 := Scalar.addi c0_i32_1995 v1947
  v1948.toNat
def k0_dev58 (d0 : Dev nD) : Nat :=
  let c0_i32_2023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.subi v2 c1_i32_2
  let c16_i32_3 : BitVec 32 := 16#32
  let v7 : BitVec 32 := Scalar.addi v6 c16_i32_3
  let c8_i32_4 : BitVec 32 := 8#32
  let v8 : BitVec 32 := Scalar.remsi v7 c8_i32_4
  let c1_i32_2022 : BitVec 32 := 1#32
  let v1973 : BitVec 32 := Scalar.muli v8 c1_i32_2022
  let v1974 : BitVec 32 := Scalar.addi c0_i32_2023 v1973
  v1974.toNat
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S8x8192x1024 : Shape := ⟨3, ![8, 8192, 1024]⟩
abbrev S_ : Shape := ⟨0, ![]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S8x8192x1024, .f32⟩
  | .hbm, ⟨2, _⟩ => ⟨S_, .f32⟩
  | .hbm, ⟨3, _⟩ => ⟨S8192x1024, .f32⟩
  | .hbm, ⟨4, _⟩ => ⟨S8192x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Same.lean ====
/- The program and its idealized print are the same program: the second was printed with nothing rewritten. A run of one
   is a run of the other. -/
module

public import proofs.«01_k».proof.Proof.Gen.KernelIdeal.Launch
public import proofs.«01_k».proof.Proof.Gen.Kernel.Launch

@[expose] public section

noncomputable section

namespace Cert.AllReduce

open Idealize.ShloMosaic Idealize.SL.Sem

variable {F : FTy → Type} [FloatOps F]

set_option maxRecDepth 100000 in
theorem body_same (a0 h0 a1 h1 a2 h2 a3 h3 a4 h4 s0 s1 s2 s3 s4 s5 s6 s7 s8) :
    Cert.Kernel.cc0_body (F := F) a0 h0 a1 h1 a2 h2 a3 h3 a4 h4 s0 s1 s2 s3 s4 s5 s6 s7 s8
      = Cert.KernelIdeal.cc0_body (F := F) a0 h0 a1 h1 a2 h2 a3 h3 a4 h4 s0 s1 s2 s3 s4 s5 s6 s7 s8 := by
  rfl

theorem defs₀_same : Cert.Kernel.defs₀ (F := F) = Cert.KernelIdeal.defs₀ (F := F) := by
  unfold Cert.Kernel.defs₀ Cert.KernelIdeal.defs₀
  refine congrArg (Defs.onTc (τ := Cert.KernelIdeal.τ)) (funext fun l => funext fun x => ?_)
  match l, x with
  | 0, (t, s) => exact body_same ..

theorem defs_same : Cert.Kernel.defs (F := F) = Cert.KernelIdeal.defs (F := F) := by
  unfold Cert.Kernel.defs Cert.KernelIdeal.defs
  exact congrArg (fun d => Pipeline.defs (Cert.KernelIdeal.pcfgs (F := F)) d) defs₀_same

theorem main_same : Cert.Kernel.main (F := F) = Cert.KernelIdeal.main (F := F) := by
  rfl

theorem run_same (s P) :
    θ_run (Cert.Kernel.defs (F := F)) (onTc (τ := Cert.Kernel.τ) (Cert.Kernel.main (F := F))) s P
      = θ_run (Cert.KernelIdeal.defs (F := F)) (onTc (τ := Cert.KernelIdeal.τ) (Cert.KernelIdeal.main (F := F))) s P := by
  rw [defs_same, main_same]

end Cert.AllReduce

end
-- ==== Proof.Prog.lean ====
/- The kernel's body as a sequence of a few parameterised steps.

   The printed body is unrolled: 112 receive waits, 56 + 56 sends and so on, each with its own
   literal offsets. Here every kind of statement is written once, with the step, the half and the
   direction as parameters, and `body_eq` says that the printed body is the sequence of those
   steps.

   An EVENT is a number `n < 56`: `n = 4 * t + 2 * j + h` is ring step `t` (`t < 7` reduce-scatter,
   `t ≥ 7` all-gather), row half `j`, direction `h` (`0` towards the right neighbour, `1` towards
   the left). Events are numbered in the order in which a device receives them, which is also the
   order in which it sends them. -/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Regions
public import Idealize.ShloMosaic.Lib.Tactic

@[expose] public section

noncomputable section

namespace Cert.AllReduce

open Idealize.ShloMosaic Idealize.SL.Sem
open Cert.KernelIdeal Cert.KernelIdeal.Gen

variable {F : FTy → Type} [FloatOps F]

/-- A statement of the kernel. -/
abbrev Stmt (F : FTy → Type) : Type 1 := Prog (TpuEff nD τ sig (Elt F) Λ₀ .tc) PUnit

/-! ## Events -/

/-- The half-chunk (rows `512 * j ..`) an event moves. -/
def jOf (n : ℕ) : Fin 2 := ⟨n / 2 % 2, Nat.mod_lt _ (by decide)⟩
/-- The direction of an event: `0` right, `1` left. -/
def hOf (n : ℕ) : Fin 2 := ⟨n % 2, Nat.mod_lt _ (by decide)⟩
/-- The step of an event within its phase. -/
def sOf (n : ℕ) : Fin 7 := ⟨n / 4 % 7, Nat.mod_lt _ (by decide)⟩

/-! ## Buffers and semaphores -/

/-- This device's block of the input, in HBM. -/
abbrev xM : Memref sig .tc .hbm S8192x1024 .f32 := Memref.whole main_arg0
/-- The result's staging buffer. -/
abbrev outM : Memref sig .tc .vmem S8192x1024 .bf16 := Memref.whole cc0_stg0_0
/-- The two slots the input's chunks are loaded into. -/
abbrev stageM : Memref sig .tc .vmem S2x1024x1024 .f32 := Memref.whole cc0_scratch0
/-- The buffer reduce-scatter partial sums of direction `h` arrive in, a slot per step. -/
abbrev commR (h : Fin 2) : Ref sig .tc := if h = 0 then cc0_scratch1 else cc0_scratch2
/-- `commR` as a memref. -/
def commM (h : Fin 2) : Memref sig .tc .vmem S7x1024x512 .bf16 :=
  if h = 0 then Memref.whole cc0_scratch1 else Memref.whole cc0_scratch2

theorem commM_whole (h : Fin 2) : (commM h).IsWhole := by
  unfold commM; split <;> exact Memref.isWhole_whole _

/-- The semaphore load `i` completes on. -/
def loadSem (i : Fin 8) : DmaSem sig := ⟨1 + i.val, show 1 + i.val < 121 by omega⟩
/-- The semaphore the sender of event `n` waits on. -/
def sendSem (n : ℕ) : DmaSem sig :=
  ⟨9 + 28 * (n % 2) + 56 * (n / 28 % 2) + 2 * (n / 4 % 7) + n / 2 % 2,
   show 9 + 28 * (n % 2) + 56 * (n / 28 % 2) + 2 * (n / 4 % 7) + n / 2 % 2 < 121 by omega⟩
/-- The semaphore the receiver of event `n` waits on. -/
def recvSem (n : ℕ) : DmaSem sig :=
  ⟨23 + 28 * (n % 2) + 56 * (n / 28 % 2) + 2 * (n / 4 % 7) + n / 2 % 2,
   show 23 + 28 * (n % 2) + 56 * (n / 28 % 2) + 2 * (n / 4 % 7) + n / 2 % 2 < 121 by omega⟩
/-- The barrier semaphore. -/
abbrev barS : Sem sig := sig.barrier 0 rfl

/-! ## Neighbours and offsets -/

/-- The device a transfer of direction `h` goes to. -/
def peer (h : Fin 2) (d : Dev nD) : Dev nD :=
  if h = 0 then ⟨k0_dev3 d, k0_dev3_lt d⟩ else ⟨k0_dev4 d, k0_dev4_lt d⟩

/-- Where in the result the source of a reduce-scatter send lies. -/
def rsOff (h : Fin 2) (d : Dev nD) (s : Fin 7) (j : Fin 2) : Fin 2 → ℕ :=
  if h = 0 then k0_off3 d (BitVec.ofNat 32 s.val) (BitVec.ofNat 32 (512 * j.val))
  else k0_off4 d (BitVec.ofNat 32 s.val) (BitVec.ofNat 32 (512 * j.val))
/-- Where in the result the partial sum received at reduce-scatter step `s` is added. -/
def accOff (h : Fin 2) (d : Dev nD) (s : Fin 7) (j : Fin 2) : Fin 2 → ℕ :=
  if h = 0 then k0_off6 d (BitVec.ofNat 32 s.val) (BitVec.ofNat 32 (512 * j.val))
  else k0_off7 d (BitVec.ofNat 32 s.val) (BitVec.ofNat 32 (512 * j.val))
/-- Where in the result the source of an all-gather send lies (and its destination). -/
def agOff (h : Fin 2) (d : Dev nD) (s : Fin 7) (j : Fin 2) : Fin 2 → ℕ :=
  if h = 0 then k0_off8 d (BitVec.ofNat 32 s.val) (BitVec.ofNat 32 (512 * j.val))
  else k0_off9 d (BitVec.ofNat 32 s.val) (BitVec.ofNat 32 (512 * j.val))

theorem rsOff_inb (h : Fin 2) (d : Dev nD) (s : Fin 7) (j : Fin 2) :
    ∀ a, rsOff h d s j a + S512x512.size a ≤ S8192x1024.size a := by
  unfold rsOff; split; exacts [k0_off3_inb d s j, k0_off4_inb d s j]
theorem accOff_inb (h : Fin 2) (d : Dev nD) (s : Fin 7) (j : Fin 2) :
    ∀ a, accOff h d s j a + S512x512.size a ≤ S8192x1024.size a := by
  unfold accOff; split; exacts [k0_off6_inb d s j, k0_off7_inb d s j]
theorem agOff_inb (h : Fin 2) (d : Dev nD) (s : Fin 7) (j : Fin 2) :
    ∀ a, agOff h d s j a + S512x512.size a ≤ S8192x1024.size a := by
  unfold agOff; split; exacts [k0_off8_inb d s j, k0_off9_inb d s j]

/-- A `512 × 512` block of the result's shape. -/
abbrev boxR (o : Fin 2 → ℕ) (ho : ∀ a, o a + S512x512.size a ≤ S8192x1024.size a) : Rect S8192x1024 :=
  Rect.unit (s := S8192x1024) o S512x512.size ho
/-- A `512 × 512` block of the result. -/
abbrev boxM (o : Fin 2 → ℕ) (ho : ∀ a, o a + S512x512.size a ≤ S8192x1024.size a) :
    Memref sig .tc .vmem S512x512 .bf16 := outM.slice (boxR o ho) (fun _ => rfl)

theorem boxM_words (o : Fin 2 → ℕ) (ho : ∀ a, o a + S512x512.size a ≤ S8192x1024.size a)
    (hw : (boxR o ho).WholeWords (EltTy.packing .bf16)) : (boxM o ho).view.WordExact :=
  (Memref.isWhole_whole cc0_stg0_0).wordExact_slice rfl _ hw

theorem rsOff_words (h : Fin 2) (d : Dev nD) (s : Fin 7) (j : Fin 2) :
    (boxM (rsOff h d s j) (rsOff_inb h d s j)).view.WordExact := by
  apply boxM_words
  by_cases hh : h = 0
  · subst hh; exact k0_off3_wordsbf16 d s j
  · have : h = 1 := by omega
    subst this; exact k0_off4_wordsbf16 d s j
theorem agOff_words (h : Fin 2) (d : Dev nD) (s : Fin 7) (j : Fin 2) :
    (boxM (agOff h d s j) (agOff_inb h d s j)).view.WordExact := by
  apply boxM_words
  by_cases hh : h = 0
  · subst hh; exact k0_off8_wordsbf16 d s j
  · have : h = 1 := by omega
    subst this; exact k0_off9_wordsbf16 d s j
theorem accOff_packed (h : Fin 2) (d : Dev nD) (s : Fin 7) (j : Fin 2) :
    (boxR (accOff h d s j) (accOff_inb h d s j)).PackedRows (EltTy.packing .bf16) := by
  by_cases hh : h = 0
  · subst hh; exact k0_off6_packedbf16 d s j
  · have : h = 1 := by omega
    subst this; exact k0_off7_packedbf16 d s j

theorem slot_inb : ∀ (s : Fin 7) (j : Fin 2),
    ∀ a, (![s.val, 512 * j.val, 0] : Fin 3 → ℕ) a + S1x512x512.size a ≤ S7x1024x512.size a := by decide
/-- Half `j` of slot `s` of an arrival buffer. -/
abbrev slotR (s : Fin 7) (j : Fin 2) : Rect S7x1024x512 :=
  Rect.unit (s := S7x1024x512) ![s.val, 512 * j.val, 0] S1x512x512.size (slot_inb s j)
theorem slot_words : ∀ (s : Fin 7) (j : Fin 2), (slotR s j).WholeWords (EltTy.packing .bf16) := by decide
/-- It, as the `512 × 512` memref transfers name. -/
abbrev slotM (h : Fin 2) (s : Fin 7) (j : Fin 2) : Memref sig .tc .vmem S512x512 .bf16 :=
  ((commM h).slice (slotR s j) (fun _ => rfl)).squeeze S512x512 squeezes_S1x512x512_S512x512
theorem slotM_words (h : Fin 2) (s : Fin 7) (j : Fin 2) : (slotM h s j).view.WordExact :=
  ((commM_whole h).wordExact_slice rfl _ (slot_words s j)).reshape _ _
theorem slotM_tc (h : Fin 2) (s : Fin 7) (j : Fin 2) : (slotM h s j).view.ref.isScScratch = false := by
  by_cases hh : h = 0
  · subst hh; rfl
  · have : h = 1 := by omega
    subst this; rfl

theorem stage_inb : ∀ (b : Fin 2),
    ∀ a, (![b.val, 0, 0] : Fin 3 → ℕ) a + S1x1024x1024.size a ≤ S2x1024x1024.size a := by decide
theorem half_inb : ∀ (j : Fin 2),
    ∀ a, (![0, 512 * j.val, 0] : Fin 3 → ℕ) a + S1x512x1024.size a ≤ S2x1024x1024.size a := by decide
/-- The slot load `i` fills. -/
def bOf (i : Fin 8) : Fin 2 := ⟨i.val % 2, Nat.mod_lt _ (by decide)⟩
/-- Slot `b` of the loading buffer. -/
abbrev stageR (b : Fin 2) : Rect S2x1024x1024 :=
  Rect.unit (s := S2x1024x1024) ![b.val, 0, 0] S1x1024x1024.size (stage_inb b)
/-- It, as the `1024 × 1024` memref loads name. -/
abbrev stageSl (b : Fin 2) : Memref sig .tc .vmem S1024x1024 .f32 :=
  (stageM.slice (stageR b) (fun _ => rfl)).squeeze S1024x1024 squeezes_S1x1024x1024_S1024x1024
/-- Half `j` of slot 0. -/
abbrev halfR (j : Fin 2) : Rect S2x1024x1024 :=
  Rect.unit (s := S2x1024x1024) ![0, 512 * j.val, 0] S1x512x1024.size (half_inb j)

/-- The chunk of the input load `i` reads. -/
abbrev xCh (d : Dev nD) (i : Fin 8) : Memref sig .tc .hbm S1024x1024 .f32 :=
  xM.slice (Rect.unit (s := S8192x1024) (k0_off1 d (k0_off1_at i)) S1024x1024.size (k0_off1_inb d i)) (fun _ => rfl)
/-- The chunk of the result conversion `i + 1` fills. -/
abbrev chR (d : Dev nD) (i : Fin 7) : Rect S8192x1024 :=
  Rect.unit (s := S8192x1024) (k0_off5 d (k0_off5_at i)) S1024x1024.size (k0_off5_inb d i)
/-- Half `j` of the device's own chunk of the result. -/
abbrev ownR (d : Dev nD) (j : Fin 2) : Rect S8192x1024 :=
  Rect.unit (s := S8192x1024) (k0_off2 d (BitVec.ofNat 32 (512 * j.val))) S512x1024.size (k0_off2_inb d j)

/-! ## Statements -/

/-- Start loading chunk `i`. -/
def ldStart (d : Dev nD) (i : Fin 8) : Stmt F :=
  Prog.lift (.enqueueDma (xCh d i) (.here (stageSl (bOf i))) (.dma (loadSem i))
    (View.wordExact_bits rfl) ((View.wordExact_bits rfl).reshape _ _) ⟨Or.inl rfl, trivial⟩)
/-- Wait for chunk `i`. -/
def ldWait (d : Dev nD) (i : Fin 8) : Stmt F :=
  Prog.lift (.waitDma2 (loadSem i) (xCh d i) (stageSl (bOf i))
    (View.wordExact_bits rfl) ((View.wordExact_bits rfl).reshape _ _))
/-- Cast chunk `i + 1` into the result. -/
def conv (d : Dev nD) (i : Fin 7) : Stmt F :=
  Prog.lift (.load stageM (stageR (bOf i.succ)).toLoadRect (View.loadsAt_vmem h_S1x1024x1024)) >>= fun v =>
  Prog.lift (.load outM (chR d i).toLoadRect (View.loadsAt_vmem h_S1024x1024)) >>= fun _ =>
  Prog.lift (.store outM (chR d i) (k0_pay3 v) Finset.univ
    (View.stores_vmem h_S1024x1024 ((Memref.isWhole_whole cc0_stg0_0).storeExact_slice rfl _ (k0_off5_packedbf16 d i)) (fun _ => rfl)) (.inl rfl))
/-- Cast half `j` of the device's own chunk into the result. -/
def ownConv (d : Dev nD) (j : Fin 2) : Stmt F :=
  Prog.lift (.load stageM (halfR j).toLoadRect (View.loadsAt_vmem h_S1x512x1024)) >>= fun v =>
  Prog.lift (.load outM (ownR d j).toLoadRect (View.loadsAt_vmem h_S512x1024)) >>= fun _ =>
  Prog.lift (.store outM (ownR d j) (k0_pay1 v) Finset.univ
    (View.stores_vmem h_S512x1024 ((Memref.isWhole_whole cc0_stg0_0).storeExact_slice rfl _ (k0_off2_packedbf16 d j)) (fun _ => rfl)) (.inl rfl))

/-- Send a reduce-scatter partial sum. -/
def rsSend (d : Dev nD) (n : ℕ) : Stmt F :=
  Prog.lift (.enqueueDma (boxM (rsOff (hOf n) d (sOf n) (jOf n)) (rsOff_inb _ d _ _))
    (.remote (Dev.tc (peer (hOf n) d)) (slotM (hOf n) (sOf n) (jOf n)) (.dma (sendSem n)) (slotM_tc _ _ _)) (.dma (recvSem n))
    (rsOff_words _ d _ _) (slotM_words _ _ _) ⟨⟨rfl, Or.inl rfl⟩, trivial⟩)
/-- Send a finished block. -/
def agSend (d : Dev nD) (n : ℕ) : Stmt F :=
  Prog.lift (.enqueueDma (boxM (agOff (hOf n) d (sOf n) (jOf n)) (agOff_inb _ d _ _))
    (.remote (Dev.tc (peer (hOf n) d)) (boxM (agOff (hOf n) d (sOf n) (jOf n)) (agOff_inb _ d _ _)) (.dma (sendSem n))) (.dma (recvSem n))
    (agOff_words _ d _ _) (agOff_words _ d _ _) ⟨⟨rfl, Or.inl rfl⟩, trivial⟩)
/-- The send of event `n`. -/
def sendEv (d : Dev nD) (n : ℕ) : Stmt F := if n < 28 then rsSend d n else agSend d n

/-- Wait for a partial sum. -/
def rsWait (d : Dev nD) (n : ℕ) : Stmt F :=
  Prog.lift (.waitDma2 (recvSem n) (boxM (rsOff (hOf n) d (sOf n) (jOf n)) (rsOff_inb _ d _ _)) (slotM (hOf n) (sOf n) (jOf n))
    (rsOff_words _ d _ _) (slotM_words _ _ _))
/-- Add it into the result. -/
def accEv (d : Dev nD) (n : ℕ) : Stmt F :=
  Prog.lift (.load outM (boxR (accOff (hOf n) d (sOf n) (jOf n)) (accOff_inb _ d _ _)).toLoadRect (View.loadsAt_vmem h_S512x512)) >>= fun v =>
  Prog.lift (.load (commM (hOf n)) (slotR (sOf n) (jOf n)).toLoadRect (View.loadsAt_vmem h_S1x512x512)) >>= fun w =>
  Prog.lift (.load outM (boxR (accOff (hOf n) d (sOf n) (jOf n)) (accOff_inb _ d _ _)).toLoadRect (View.loadsAt_vmem h_S512x512)) >>= fun _ =>
  Prog.lift (.store outM (boxR (accOff (hOf n) d (sOf n) (jOf n)) (accOff_inb _ d _ _)) (k0_pay5 v w) Finset.univ
    (View.stores_vmem h_S512x512 ((Memref.isWhole_whole cc0_stg0_0).storeExact_slice rfl _ (accOff_packed _ d _ _)) (fun _ => rfl)) (.inl rfl))
/-- Wait for a finished block. -/
def agWait (d : Dev nD) (n : ℕ) : Stmt F :=
  Prog.lift (.waitDma2 (recvSem n) (boxM (agOff (hOf n) d (sOf n) (jOf n)) (agOff_inb _ d _ _)) (boxM (agOff (hOf n) d (sOf n) (jOf n)) (agOff_inb _ d _ _))
    (agOff_words _ d _ _) (agOff_words _ d _ _))
/-- Receive reduce-scatter event `n`, and send what is next in its direction. -/
def rsHop (d : Dev nD) (n : ℕ) : Stmt F :=
  rsWait d n >>= fun _ => accEv d n >>= fun _ => sendEv d (n + 4)
/-- Receive all-gather event `n`, and pass it on. -/
def agHop (d : Dev nD) (n : ℕ) : Stmt F :=
  agWait d n >>= fun _ => if n + 4 < 56 then sendEv d (n + 4) else pure ⟨⟩
/-- Wait until the send of event `n` has left. -/
def endWait (d : Dev nD) (n : ℕ) : Stmt F :=
  if n < 28 then
    Prog.lift (.waitDma2 (sendSem n) (slotM (hOf n) (sOf n) (jOf n)) (boxM (rsOff (hOf n) d (sOf n) (jOf n)) (rsOff_inb _ d _ _))
      (slotM_words _ _ _) (rsOff_words _ d _ _))
  else
    Prog.lift (.waitDma2 (sendSem n) (boxM (agOff (hOf n) d (sOf n) (jOf n)) (agOff_inb _ d _ _)) (boxM (agOff (hOf n) d (sOf n) (jOf n)) (agOff_inb _ d _ _))
      (agOff_words _ d _ _) (agOff_words _ d _ _))

/-- Statements in sequence. -/
def seqs : List (Stmt F) → Stmt F
  | [] => pure ⟨⟩
  | p :: ps => p >>= fun _ => seqs ps

/-- Meet both neighbours. -/
def barr (d : Dev nD) : Stmt F :=
  semSignalWord (⟨k0_dev1 d, k0_dev1_lt d⟩ : Dev nD) barS 1#32 >>= fun _ =>
  semSignalWord (⟨k0_dev2 d, k0_dev2_lt d⟩ : Dev nD) barS 1#32 >>= fun _ =>
  semWaitWord barS 2#32

/-- Wait for chunk `i + 1`, cast it into the result, and start the load that uses its slot next. -/
def ldConv (d : Dev nD) (i : Fin 7) : List (Stmt F) :=
  if h : i.val + 3 < 8 then [ldWait d i.succ, conv d i, ldStart d ⟨i.val + 3, h⟩] else [ldWait d i.succ, conv d i]

/-- Everything before the first receive. -/
def opening (d : Dev nD) : List (Stmt F) :=
  [ldStart d 0, ldStart d 1, barr d, ldWait d 0,
   ownConv d 0, rsSend d 0, rsSend d 1, ownConv d 1, rsSend d 2, rsSend d 3, ldStart d 2]
    ++ ldConv d 0 ++ ldConv d 1

/-- The reduce-scatter, with the loads and casts still to come in between. -/
def reduceScatter (d : Dev nD) : List (Stmt F) :=
  [rsHop d 0, rsHop d 1, rsHop d 2, rsHop d 3]
    ++ ldConv d 2 ++ [rsHop d 4] ++ ldConv d 3 ++ [rsHop d 5, rsHop d 6, rsHop d 7]
    ++ ldConv d 4 ++ [rsHop d 8] ++ ldConv d 5 ++ [rsHop d 9, rsHop d 10, rsHop d 11]
    ++ ldConv d 6 ++ (List.range 16).map fun m => rsHop d (12 + m)

/-- The all-gather. -/
def allGather (d : Dev nD) : List (Stmt F) := (List.range 28).map fun m => agHop d (28 + m)

/-- The event the `m`-th of the closing waits is for: at each step and half, the two reduce-scatter sends and
    then the two all-gather sends. -/
def endOf (m : ℕ) : ℕ := 28 * (m / 2 % 2) + 2 * (m / 4) + m % 2

/-- The closing waits. -/
def closing (d : Dev nD) : List (Stmt F) := (List.range 56).map fun m => endWait d (endOf m)

/-- The body on device `d`. -/
def body (d : Dev nD) : Stmt F := seqs (opening d ++ reduceScatter d ++ allGather d ++ closing d)

set_option maxRecDepth 100000 in
theorem body_eq :
    cc0_body (F := F) xM (Memref.isWhole_whole _) outM (Memref.isWhole_whole _) stageM (Memref.isWhole_whole _)
      (Memref.whole cc0_scratch1) (Memref.isWhole_whole _) (Memref.whole cc0_scratch2) (Memref.isWhole_whole _)
      cc0_scratch3 cc0_scratch4 cc0_scratch5 cc0_scratch6 cc0_scratch7 cc0_scratch8 cc0_scratch9 cc0_scratch10 cc0_scratch11
      = (Prog.lift .deviceId >>= fun d => body d) := by
  chain_rfl

end Cert.AllReduce

end
-- ==== Proof.Base.lean ====
/- The ring's arithmetic: which device, and which chunk, an event is about.

   `rot h t d` is the device `t` places downstream of `d` in direction `h` (`0` right, `1` left).
   The chunk that event `n` moves away from device `c` is `ck n c = rot h (7 * t) c`, that is `c`
   counted back `t` places; every printed offset is one of the blocks `bOff k j h` (chunk `k`, row
   half `j`, column half `h`). -/
module

public import proofs.«01_k».proof.Proof.Prog

@[expose] public section

noncomputable section

namespace Cert.AllReduce

open Idealize.ShloMosaic Idealize.SL.Sem
open Cert.KernelIdeal Cert.KernelIdeal.Gen

/-! ## The ring -/

set_option backward.proofsInPublic true in
/-- The device `t` places downstream of `d`. -/
def rot (h : Fin 2) (t : ℕ) (d : Dev nD) : Dev nD :=
  ⟨(d.val + (if h = 0 then t else 7 * t)) % 8, Nat.mod_lt _ (by decide)⟩

theorem rot_val (h : Fin 2) (t : ℕ) (d : Dev nD) :
    (rot h t d).val = (d.val + (if h = 0 then t else 7 * t)) % 8 := rfl
theorem rot_zero (h : Fin 2) (d : Dev nD) : rot h 0 d = d := by
  have : d.val < 8 := d.isLt
  refine Fin.ext ?_; rw [rot_val]; split <;> omega
theorem rot_rot (h : Fin 2) (a b : ℕ) (d : Dev nD) : rot h a (rot h b d) = rot h (a + b) d := by
  refine Fin.ext ?_; rw [rot_val, rot_val, rot_val]; split <;> omega
theorem rot_congr (h : Fin 2) {a b : ℕ} (hab : a % 8 = b % 8) (d : Dev nD) : rot h a d = rot h b d := by
  refine Fin.ext ?_; rw [rot_val, rot_val]; split <;> omega
theorem rot_back (h : Fin 2) (t : ℕ) (d : Dev nD) : rot h (7 * t) (rot h t d) = d := by
  rw [rot_rot]; exact (rot_congr h (b := 0) (by omega) d).trans (rot_zero h d)
theorem rot_forth (h : Fin 2) (t : ℕ) (d : Dev nD) : rot h t (rot h (7 * t) d) = d := by
  rw [rot_rot]; exact (rot_congr h (b := 0) (by omega) d).trans (rot_zero h d)

/-- `rot h t` as a permutation of the devices. -/
def rotE (h : Fin 2) (t : ℕ) : Dev nD ≃ Dev nD := ⟨rot h t, rot h (7 * t), rot_back h t, rot_forth h t⟩

theorem rot_inj (h : Fin 2) (t : ℕ) {a b : Dev nD} (e : rot h t a = rot h t b) : a = b :=
  (rotE h t).injective e

theorem peer_eq : ∀ (h : Fin 2) (d : Dev nD), peer h d = rot h 1 d := by
  intro h d
  unfold peer; split
  · subst h; refine Fin.ext ?_; rw [rot_val]; exact (k0_dev3_eq d).trans (by simp only [if_true]; omega)
  · refine Fin.ext ?_; rw [rot_val]; exact (k0_dev4_eq d).trans (by rw [if_neg (by assumption)]; omega)

/-- The barrier's first signal goes left, its second right. -/
theorem dev1_eq (d : Dev nD) : (⟨k0_dev1 d, k0_dev1_lt d⟩ : Dev nD) = rot 1 1 d :=
  Fin.ext ((k0_dev1_eq d).trans (by rw [rot_val, if_neg (by decide)]; omega))
theorem dev2_eq (d : Dev nD) : (⟨k0_dev2 d, k0_dev2_lt d⟩ : Dev nD) = rot 0 1 d :=
  Fin.ext ((k0_dev2_eq d).trans (by rw [rot_val, if_pos rfl]; omega))

/-! ## Blocks -/

/-- Where block (chunk `k`, row half `j`, column half `h`) starts. -/
def bOff (k : Dev nD) (j h : Fin 2) : Fin 2 → ℕ := ![1024 * k.val + 512 * j.val, 512 * h.val]
theorem bOff_inb (k : Dev nD) (j h : Fin 2) : ∀ a, bOff k j h a + S512x512.size a ≤ S8192x1024.size a := by
  have := k.isLt; have := j.isLt; have := h.isLt
  have h8 : nD = 8 := rfl
  intro a
  match a with
  | 0 => show 1024 * k.val + 512 * j.val + 512 ≤ 8192; omega
  | 1 => show 512 * h.val + 512 ≤ 1024; omega

/-- Block (chunk `k`, row half `j`, column half `h`) of the result. -/
abbrev box (k : Dev nD) (j h : Fin 2) : Memref sig .tc .vmem S512x512 .bf16 := boxM (bOff k j h) (bOff_inb k j h)

theorem fin2_ne {h : Fin 2} (hh : ¬ h = 0) : h = 1 := by omega

theorem rsOff_eq (h : Fin 2) (d : Dev nD) (s : Fin 7) (j : Fin 2) :
    rsOff h d s j = bOff (rot h (7 * s.val) d) j h := by
  have := s.isLt
  unfold rsOff bOff; rw [rot_val]; split
  · rename_i hh; subst hh; rw [k0_off3_eq]; congr 2; omega
  · rename_i hh; obtain rfl := fin2_ne hh; rw [k0_off4_eq]; congr 2; omega
theorem accOff_eq (h : Fin 2) (d : Dev nD) (s : Fin 7) (j : Fin 2) :
    accOff h d s j = bOff (rot h (7 * (s.val + 1)) d) j h := by
  have := s.isLt
  unfold accOff bOff; rw [rot_val]; split
  · rename_i hh; subst hh; rw [k0_off6_eq]; congr 2; omega
  · rename_i hh; obtain rfl := fin2_ne hh; rw [k0_off7_eq]; congr 2; omega
theorem agOff_eq (h : Fin 2) (d : Dev nD) (s : Fin 7) (j : Fin 2) :
    agOff h d s j = bOff (rot h (7 * (s.val + 7)) d) j h := by
  have := s.isLt
  unfold agOff bOff; rw [rot_val]; split
  · rename_i hh; subst hh; rw [k0_off8_eq]; congr 2; omega
  · rename_i hh; obtain rfl := fin2_ne hh; rw [k0_off9_eq]; congr 2; omega

/-- The chunk event `n` moves away from device `c`. -/
def ck (n : ℕ) (c : Dev nD) : Dev nD := rot (hOf n) (7 * (n / 4)) c

theorem hOf_add (n : ℕ) : hOf (n + 4) = hOf n := Fin.ext (show (n + 4) % 2 = n % 2 by omega)
theorem jOf_add (n : ℕ) : jOf (n + 4) = jOf n := Fin.ext (show (n + 4) / 2 % 2 = n / 2 % 2 by omega)

/-- The block event `n` moves away from device `c`, -/
theorem rsOff_ev (n : ℕ) (hn : n < 28) (c : Dev nD) :
    rsOff (hOf n) c (sOf n) (jOf n) = bOff (ck n c) (jOf n) (hOf n) := by
  rw [rsOff_eq]; unfold ck; rw [show (sOf n).val = n / 4 from (show n / 4 % 7 = n / 4 by omega)]
/-- which the one after it in its direction moves on, -/
theorem accOff_ev (n : ℕ) (hn : n < 28) (c : Dev nD) :
    accOff (hOf n) c (sOf n) (jOf n) = bOff (ck (n + 4) c) (jOf n) (hOf n) := by
  rw [accOff_eq]; unfold ck
  rw [show (sOf n).val = n / 4 from (show n / 4 % 7 = n / 4 by omega), hOf_add, show (n + 4) / 4 = n / 4 + 1 by omega]
/-- in the all-gather as well. -/
theorem agOff_ev (n : ℕ) (hn : 28 ≤ n) (hn' : n < 56) (c : Dev nD) :
    agOff (hOf n) c (sOf n) (jOf n) = bOff (ck n c) (jOf n) (hOf n) := by
  rw [agOff_eq]; unfold ck; rw [show (sOf n).val + 7 = n / 4 from (show n / 4 % 7 + 7 = n / 4 by omega)]

/-- Received from its neighbour upstream, an event's chunk is the one the next event moves away. -/
theorem ck_step (n : ℕ) (c : Dev nD) : ck n (rot (hOf n) 7 c) = ck (n + 4) c := by
  unfold ck; rw [rot_rot, hOf_add]; congr 1; omega
/-- The device an event's chunk has got to. -/
theorem rot_ck (n : ℕ) (c : Dev nD) : rot (hOf n) (n / 4) (ck n c) = c := rot_forth _ _ _

/-! ## The chunks loaded -/

/-- How far load `i`'s chunk is from the device's own. -/
def ldD (i : Fin 8) : ℕ := (![0, 7, 1, 6, 2, 5, 3, 4] : Fin 8 → ℕ) i
/-- The chunk load `i` reads. -/
def ldK (i : Fin 8) (d : Dev nD) : Dev nD := rot 0 (ldD i) d

/-- Where chunk `k` starts. -/
def kOff (k : Dev nD) : Fin 2 → ℕ := ![1024 * k.val, 0]
theorem kOff_inb (k : Dev nD) : ∀ a, kOff k a + S1024x1024.size a ≤ S8192x1024.size a := by
  have := k.isLt
  have h8 : nD = 8 := rfl
  intro a
  match a with
  | 0 => show 1024 * k.val + 1024 ≤ 8192; omega
  | 1 => show 0 + 1024 ≤ 1024; omega

theorem off1_eq : ∀ (i : Fin 8) (d : Dev nD), k0_off1 d (k0_off1_at i) = kOff (ldK i d) := by decide +kernel
theorem off5_eq : ∀ (i : Fin 7) (d : Dev nD), k0_off5 d (k0_off5_at i) = kOff (ldK i.succ d) := by decide +kernel
theorem off2_eq (j : Fin 2) (d : Dev nD) : k0_off2 d (BitVec.ofNat 32 (512 * j.val)) = ![1024 * d.val + 512 * j.val, 0] := by
  have : d.val < 8 := d.isLt
  rw [k0_off2_eq]; congr 2; omega

end Cert.AllReduce

end
-- ==== Proof.Sched.lean ====
/- What is handed over when: the ghost state, the partial sums, and the schedule.

   Every semaphore of a device is one CELL with one round. The barrier cell has two duties (one per
   neighbour), every other cell one. What a duty hands over is `pay`:

   * the barrier: the arrival slots of the neighbour that signalled;
   * a load: the slot of the loading buffer, filled, and the chunk of the input it was read from;
   * a reduce-scatter transfer of step `t`, on receipt: the filled arrival slot, and the blocks that the
     devices `0 .. t` places from the chunk's first device have finished with (the sender's own among
     them: it gets it back when the finished block has come round to its neighbour);
   * an all-gather transfer, on receipt: the block, finished, and the blocks that it has still to visit;
   * an all-gather transfer, on departure: the sender's block, finished. -/
module

public import proofs.«01_k».proof.Proof.Base
public import Idealize.ShloMosaic.Lib.VecWindow
public import Idealize.SL.BI.BigOpNat

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Duties and ghost state -/

/-- A semaphore of the kernel's own: a load's, an event's departure, an event's arrival. -/
abbrev OwnKey : Type := Fin 8 ⊕ (Fin 56 ⊕ Fin 56)
/-- A duty: one of the barrier's two (by the direction in which its slots are written), or that of an own semaphore. -/
abbrev Duty : Type := Fin 2 ⊕ OwnKey

abbrev kLoad (i : Fin 8) : OwnKey := .inl i
abbrev kSend (n : Fin 56) : OwnKey := .inr (.inl n)
abbrev kRecv (n : Fin 56) : OwnKey := .inr (.inr n)
abbrev dBar (h : Fin 2) : Duty := .inl h
abbrev dOwn (k : OwnKey) : Duty := .inr k

abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The own semaphores, as the launch indexes them. -/
def osem (k : OwnKey) : SemLoc sig :=
  .dma (Sum.elim (fun i => loadSem i) (Sum.elim (fun n => sendSem n.val) (fun n => recvSem n.val)) k)
/-- The semaphore a duty is one of. -/
def dsem (d : Duty) : SemLoc sig := Sum.elim (fun _ => .reg barS) osem d

/-- An own semaphore's number. -/
def keyVal (k : OwnKey) : ℕ :=
  Sum.elim (fun i => (loadSem i).val) (Sum.elim (fun n => (sendSem n.val).val) (fun n => (recvSem n.val).val)) k

theorem keyVal_inj : ∀ k k' : OwnKey, keyVal k = keyVal k' → k = k' := by decide +kernel

theorem osem_inj {k k' : OwnKey} (h : osem k = osem k') : k = k' := by
  apply keyVal_inj
  have h' : (Sum.elim (fun i => loadSem i) (Sum.elim (fun n => sendSem n.val) (fun n => recvSem n.val)) k : DmaSem sig)
      = Sum.elim (fun i => loadSem i) (Sum.elim (fun n => sendSem n.val) (fun n => recvSem n.val)) k' := by
    unfold osem at h; exact SemLoc.dma.inj h
  have h2 := congrArg Fin.val h'
  rcases k with i | n | n <;> rcases k' with i' | n' | n' <;> exact h2

abbrev barCell (c : Dev nD) : GSem nD τ sig := ((c : Thread nD τ), .reg barS)
abbrev ownCell (c : Dev nD) (k : OwnKey) : GSem nD τ sig := ((c : Thread nD τ), osem k)
abbrev dCell (c : Dev nD) (d : Duty) : GSem nD τ sig := ((c : Thread nD τ), dsem d)

/-- Events beyond the last are not used; `ev` makes a number one. -/
def ev (n : ℕ) : Fin 56 := ⟨n % 56, Nat.mod_lt _ (by decide)⟩
theorem ev_val {n : ℕ} (hn : n < 56) : (ev n).val = n := Nat.mod_eq_of_lt hn

/-- The units of a transfer of an event, and of a load. -/
def NS : ℕ := (box 0 0 0).view.dmaCredit
def NL : ℕ := (stageSl 0).view.dmaCredit
theorem NS_pos : 0 < NS := View.dmaCredit_pos _ (by decide)
theorem NL_pos : 0 < NL := View.dmaCredit_pos _ (by decide)

/-! ## Regions -/

/-- Device `c` holds the elements under `v`, reading `X`. -/
def holds (c : Dev nD) {sp : Space} {s : Shape} {e : EltTy} (v : Memref sig .tc sp s e) (X : s.Idx → Elt F e) : sProp 𝕄 :=
  v.view.loc (c : Thread nD τ) ↦[v.view.set]{fullShare} v.view.rep X
/-- Device `c` holds the elements under `v`. -/
def some_ (c : Dev nD) {sp : Space} {s : Shape} {e : EltTy} (v : Memref sig .tc sp s e) : sProp 𝕄 :=
  iprop(∃ f : Buf (Elt F) (v.view.loc (c : Thread nD τ)), v.view.loc (c : Thread nD τ) ↦[v.view.set]{fullShare} f)

instance holds_storable (c : Dev nD) {sp : Space} {s : Shape} {e : EltTy} (v : Memref sig .tc sp s e) (X : s.Idx → Elt F e) :
    BI.Storable (upEmb : UEmb _ 𝕄) (holds c v X) := by unfold holds; infer_instance
instance some_storable (c : Dev nD) {sp : Space} {s : Shape} {e : EltTy} (v : Memref sig .tc sp s e) :
    BI.Storable (upEmb : UEmb _ 𝕄) (some_ (F := F) c v) := by unfold some_; infer_instance

theorem holds_some (c : Dev nD) {sp : Space} {s : Shape} {e : EltTy} (v : Memref sig .tc sp s e) (X : s.Idx → Elt F e) :
    holds c v X ⊢ some_ c v := by
  unfold holds some_; iintro H; iexists _; iexact H

/-- Elements whose contents read `X`. -/
theorem holds_of_read (c : Dev nD) {sp : Space} {s : Shape} {e : EltTy} (v : Memref sig .tc sp s e)
    (f : Buf (Elt F) (v.view.loc (c : Thread nD τ))) (X : s.Idx → Elt F e) (h : v.view.read (Elt F) f = X) :
    (v.view.loc (c : Thread nD τ) ↦[v.view.set]{fullShare} f : sProp 𝕄) ⊢ holds c v X :=
  pointsTo_rep_of_read (c : Thread nD τ) v f fullShare X h

/-- Elements just written. -/
theorem holds_of_write (c : Dev nD) {sp : Space} {s : Shape} {e : EltTy} (v : Memref sig .tc sp s e)
    (f : Buf (Elt F) (v.view.loc (c : Thread nD τ))) (X : s.Idx → Elt F e) :
    (v.view.loc (c : Thread nD τ) ↦[v.view.set]{fullShare} v.view.write (Elt F) f X Finset.univ : sProp 𝕄) ⊢ holds c v X :=
  holds_of_read c v _ X (View.read_write_univ f X)

/-! ## The partial sums -/

variable (m : (ℓ : Loc nD τ sig) → Buf (Elt F) ℓ)

/-- Device `c`'s input. -/
abbrev xin (c : Dev nD) : S8192x1024.Idx → Elt F .f32 := m ((c : Thread nD τ).loc main_arg0)
/-- A block of device `c`'s input, cast. -/
def XV (c k : Dev nD) (j h : Fin 2) : Vec F S512x512 .bf16 :=
  truncf .bf16 (fun p => xin m c ((boxR (bOff k j h) (bOff_inb k j h)).emb p) : FVec F S512x512 .f32) bitsLt_bf16_f32
/-- A block as an arrival slot's load yields it. -/
def as1 (X : Vec F S512x512 .bf16) : Vec F S1x512x512 .bf16 :=
  fun p => X ((Shape.reshapeEquiv squeezes_S1x512x512_S512x512.numel_eq).symm p)
/-- What the block of chunk `k` (row half `j`, direction `h`) adds up to over the chunk's own device and the `t` devices
    downstream of it, the last one added in front. -/
def S (h : Fin 2) : ℕ → Dev nD → Fin 2 → Vec F S512x512 .bf16
  | 0, k, j => XV m k k j h
  | t + 1, k, j => k0_pay5 (XV m (rot h (t + 1) k) k j h) (as1 (S h t k j))
/-- What event `n` moves away from device `c`. -/
def val (n : ℕ) (c : Dev nD) : Vec F S512x512 .bf16 := S m (hOf n) (min (n / 4) 7) (ck n c) (jOf n)

/-- A chunk of device `c`'s input, as loaded. -/
def xChunk (c k : Dev nD) : Vec F S1024x1024 .f32 :=
  fun p => xin m c ((Rect.unit (s := S8192x1024) (kOff k) S1024x1024.size (kOff_inb k)).emb p)
/-- Device `c` holds the chunk load `i` reads, unchanged. -/
def xPts (c : Dev nD) (i : Fin 8) : sProp 𝕄 :=
  (xCh c i).view.loc (c : Thread nD τ) ↦[(xCh c i).view.set]{fullShare} m ((c : Thread nD τ).loc main_arg0)

omit [FloatOps F] in
instance xPts_storable (c : Dev nD) (i : Fin 8) : BI.Storable (upEmb : UEmb _ 𝕄) (xPts m c i) := by unfold xPts; infer_instance

/-! ## What a duty hands over -/

/-- The blocks that travel with event `n` of chunk `k`. -/
def travel (n : ℕ) (k : Dev nD) : sProp 𝕄 :=
  bigSep (if n < 28 then Finset.range (n / 4 + 1) else Finset.Ico (n / 4 - 6) 7)
    fun i => some_ (rot (hOf n) i k) (box k (jOf n) (hOf n))
/-- The block event `n` moves, on device `c`. -/
abbrev evBox (n : ℕ) (c : Dev nD) : Memref sig .tc .vmem S512x512 .bf16 := box (ck n c) (jOf n) (hOf n)
/-- The arrival slot of event `n`. -/
abbrev evSlot (n : ℕ) : Memref sig .tc .vmem S512x512 .bf16 := slotM (hOf n) (sOf n) (jOf n)

/-- The barrier's duty `h` on device `c`: the slots of the neighbour that direction `h` leads to. -/
def barPay (c : Dev nD) (h : Fin 2) : sProp 𝕄 :=
  bigSep ((Finset.range 28).filter fun n => hOf n = h) fun n => some_ (rot h 1 c) (evSlot n)
/-- Load `i` on device `c`. -/
def loadPay (c : Dev nD) (i : Fin 8) : sProp 𝕄 :=
  iprop(holds c (stageSl (bOf i)) (xChunk m c (ldK i c)) ∗ xPts m c i)
/-- Event `n` having left device `c`. -/
def sendPay (c : Dev nD) (n : ℕ) : sProp 𝕄 :=
  if n < 28 then iprop(emp) else holds c (evBox n c) (val m n c)
/-- Event `n` having reached device `c`. -/
def recvPay (c : Dev nD) (n : ℕ) : sProp 𝕄 :=
  iprop((if n < 28 then holds c (evSlot n) (val m n (rot (hOf n) 7 c)) else holds c (evBox (n + 4) c) (val m (n + 4) c))
    ∗ travel n (ck (n + 4) c))

def pay (c : Dev nD) (d : Duty) : sProp 𝕄 :=
  Sum.elim (barPay c) (Sum.elim (loadPay m c) (Sum.elim (fun n => sendPay m c n.val) (fun n => recvPay m c n.val))) d

instance pay_storable (c : Dev nD) (d : Duty) : BI.Storable (upEmb : UEmb _ 𝕄) (pay m c d) := by
  rcases d with h | i | n | n
  · show BI.Storable upEmb (barPay c h); unfold barPay; infer_instance
  · show BI.Storable upEmb (loadPay m c i); unfold loadPay; infer_instance
  · show BI.Storable upEmb (sendPay m c n.val); unfold sendPay; split <;> infer_instance
  · show BI.Storable upEmb (recvPay m c n.val); unfold recvPay travel; split <;> infer_instance

/-- The units of a duty. -/
def units (d : Duty) : ℕ := Sum.elim (fun _ => 1) (Sum.elim (fun _ => NL) (fun _ => NS)) d
theorem units_pos (d : Duty) : 0 < units d := by
  unfold units
  rcases d with h | i | n
  · rw [Sum.elim_inl]; exact Nat.one_pos
  · rw [Sum.elim_inr, Sum.elim_inl]; exact NL_pos
  · rw [Sum.elim_inr, Sum.elim_inr]; exact NS_pos

/-- The schedule. -/
def Rd : Rounds.Schedule (GSem nD τ sig) Duty 𝕄 where
  duties g r := if r = 0 ∧ g.1.2 = .tc then Finset.univ.filter (fun d => dsem d = g.2) else ∅
  unitless _ := False
  amount _ _ d := units d
  payload g _ d := pay m g.1.1 d
  amount_pos _ _ d _ := units_pos d

instance Rd_payload_storable (g : GSem nD τ sig) (r : ℕ) (d : Duty) :
    BI.Storable (upEmb : UEmb _ 𝕄) ((Rd (F := F) m).payload g r d) := pay_storable m g.1.1 d

theorem duties_later (g : GSem nD τ sig) : ∀ r, 1 ≤ r → (Rd (F := F) m).duties g r = ∅ :=
  fun r hr => by dsimp only [Rd]; rw [if_neg fun h => by omega]
theorem mem_duties (c : Dev nD) (d : Duty) : d ∈ (Rd (F := F) m).duties (dCell c d) 0 := by
  dsimp only [Rd]; rw [if_pos ⟨rfl, rfl⟩]; exact Finset.mem_filter.mpr ⟨Finset.mem_univ _, rfl⟩
theorem duties_own (c : Dev nD) (k : OwnKey) : (Rd (F := F) m).duties (ownCell c k) 0 = {dOwn k} := by
  dsimp only [Rd]; rw [if_pos ⟨rfl, rfl⟩]
  ext d
  rw [Finset.mem_filter, Finset.mem_singleton]
  refine ⟨fun h => ?_, fun h => ⟨Finset.mem_univ _, by rw [h]; rfl⟩⟩
  rcases d with b | k'
  · exact absurd h.2 (by show ¬ (SemLoc.reg barS = osem k); unfold osem; intro e; cases e)
  · exact congrArg Sum.inr (osem_inj h.2)
theorem duties_bar (c : Dev nD) : (Rd (F := F) m).duties (barCell c) 0 = {dBar 0, dBar 1} := by
  dsimp only [Rd]; rw [if_pos ⟨rfl, rfl⟩]
  ext d
  rw [Finset.mem_filter, Finset.mem_insert, Finset.mem_singleton]
  rcases d with b | k'
  · have hb : b = 0 ∨ b = 1 := by omega
    refine ⟨fun _ => hb.imp (congrArg Sum.inl) (congrArg Sum.inl), fun _ => ⟨Finset.mem_univ _, rfl⟩⟩
  · refine ⟨fun h => absurd h.2 (by show ¬ (osem k' = SemLoc.reg barS); unfold osem; intro e; cases e), fun h => ?_⟩
    rcases h with h | h <;> cases h

theorem expect_own (c : Dev nD) (k : OwnKey) : (Rd (F := F) m).expect (ownCell c k) 0 = units (dOwn k) := by
  unfold Schedule.expect Schedule.amountOf; rw [duties_own, Finset.sum_singleton]; rfl
theorem expect_bar (c : Dev nD) : (Rd (F := F) m).expect (barCell c) 0 = 2 := by
  unfold Schedule.expect Schedule.amountOf; rw [duties_bar, Finset.sum_pair (by intro h; cases h)]; rfl

theorem rest_own (c : Dev nD) (k : OwnKey) :
    bigSep ((Rd (F := F) m).duties (ownCell c k) 0 \ ∅) (fun d => (Rd (F := F) m).payload (ownCell c k) 0 d) = pay m c (dOwn k) := by
  rw [Finset.sdiff_empty, duties_own, bigSep_singleton]; rfl
theorem rest_bar (c : Dev nD) :
    bigSep ((Rd (F := F) m).duties (barCell c) 0 \ ∅) (fun d => (Rd (F := F) m).payload (barCell c) 0 d) = iprop(barPay c 0 ∗ barPay c 1) := by
  rw [Finset.sdiff_empty, duties_bar, BI.bigSep_insert (by intro h; cases Finset.mem_singleton.mp h), bigSep_singleton]; rfl

/-! ## What a device owes; the levels -/

/-- The arrival cell of event `n` at the device that `c` sends it to. -/
abbrev toCell (n : ℕ) (c : Dev nD) : GSem nD τ sig := ownCell (rot (hOf n) 1 c) (kRecv (ev n))

/-- What `c` owes when it has sent the events below `n`. -/
def Owed (n : ℕ) (c : Dev nD) : CellTallies nD τ sig Unit := ∑ i ∈ Finset.Ico n 56, tallyAt (toCell i c) () NS
/-- What `c` owes at launch: its transfers, and a signal to each neighbour. -/
def O₁ (c : Dev nD) : CellTallies nD τ sig Unit := Owed 0 c + tallyAt (barCell (rot 0 1 c)) () 1
def O₀ (c : Dev nD) : CellTallies nD τ sig Unit := O₁ c + tallyAt (barCell (rot 1 1 c)) () 1

theorem Owed_step {n : ℕ} (hn : n < 56) (c : Dev nD) : Owed n c = Owed (n + 1) c + tallyAt (toCell n c) () NS := by
  unfold Owed
  rw [show Finset.Ico n 56 = insert n (Finset.Ico (n + 1) 56) by ext x; simp only [Finset.mem_Ico, Finset.mem_insert]; omega,
    Finset.sum_insert (by rw [Finset.mem_Ico]; omega), add_comm]
theorem Owed_end (c : Dev nD) : Owed 56 c = 0 := by unfold Owed; rw [Finset.Ico_self, Finset.sum_empty]

def L (g : GSem nD τ sig) : Finset Unit := if g.1.2 = .tc then {()} else ∅
/-- The level of a semaphore: an event's arrival `2 +` its number, the barrier 1, all else 0. -/
def lvS : SemLoc sig → ℕ
  | .reg _ => 1
  | .dma q => if 9 ≤ q.val ∧ (q.val - 9) / 14 % 2 = 1
      then 2 + (28 * ((q.val - 9) / 56) + 4 * ((q.val - 9) % 14 / 2) + 2 * ((q.val - 9) % 2) + (q.val - 9) / 28 % 2) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_recv : ∀ n : Fin 56, lvS (osem (kRecv n)) = 2 + n.val := by decide +kernel
theorem lv_send : ∀ n : Fin 56, lvS (osem (kSend n)) = 0 := by decide +kernel
theorem lv_load : ∀ i : Fin 8, lvS (osem (kLoad i)) = 0 := by decide +kernel

theorem Owed_pos {n : ℕ} {c : Dev nD} {g : GSem nD τ sig} {u : Unit} (h : 0 < Owed n c g u) :
    ∃ i, n ≤ i ∧ i < 56 ∧ g = toCell i c := by
  unfold Owed at h
  obtain ⟨i, hi, h⟩ := Pipeline.sum_pos_exists h
  rw [Finset.mem_Ico] at hi
  refine ⟨i, hi.1, hi.2, ?_⟩
  rw [tallyAt_apply] at h
  by_contra hne
  rw [if_neg (fun h' => hne h'.1)] at h
  exact Nat.lt_irrefl 0 h

theorem toCell_lv {i : ℕ} (hi : i < 56) (c : Dev nD) (u : Unit) : u ∈ L (toCell i c) ∧ lv (toCell i c) u = 2 + i := by
  refine ⟨by rw [L_tc]; exact Finset.mem_singleton_self _, ?_⟩
  unfold lv; rw [lv_recv, ev_val hi]

theorem O₀_pos {c : Dev nD} {g : GSem nD τ sig} {u : Unit} (h : 0 < O₀ c g u) :
    (∃ i, i < 56 ∧ g = toCell i c) ∨ g = barCell (rot 0 1 c) ∨ g = barCell (rot 1 1 c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  simp only [Nat.add_zero] at h
  obtain ⟨i, -, hi, e⟩ := Owed_pos h
  exact hn.1 ⟨i, hi, e⟩

/-- A semaphore of level below `2 + n` may be waited on owing the events from `n` on. -/
theorem mayWait_owed (c : Dev nD) (sm : SemLoc sig) (n : ℕ) (h : lvS sm < 2 + n) :
    (levAts L lv : sProp 𝕄) ⊢ MayWait (c : Thread nD τ) sm () (Owed n c) :=
  Pipeline.mayWait_of_levAts (by rw [L_tc]; exact Finset.mem_singleton_self _) fun g u hg => by
    obtain ⟨i, hi, hi', rfl⟩ := Owed_pos hg
    refine ⟨(toCell_lv hi' c u).1, ?_⟩
    rw [(toCell_lv hi' c u).2]; exact lt_of_lt_of_le h (by omega)

/-- A semaphore of level 0 may be waited on owing everything. -/
theorem mayWait_launch (c : Dev nD) (sm : SemLoc sig) (h : lvS sm = 0) :
    (levAts L lv : sProp 𝕄) ⊢ MayWait (c : Thread nD τ) sm () (O₀ c) :=
  Pipeline.mayWait_of_levAts (by rw [L_tc]; exact Finset.mem_singleton_self _) fun g u hg => by
    rcases O₀_pos hg with ⟨i, hi, rfl⟩ | rfl | rfl
    · refine ⟨(toCell_lv hi c u).1, ?_⟩
      rw [(toCell_lv hi c u).2]; show lvS sm < 2 + i; omega
    · exact ⟨by rw [L_tc]; exact Finset.mem_singleton_self _, by unfold lv; rw [h]; exact Nat.one_pos⟩
    · exact ⟨by rw [L_tc]; exact Finset.mem_singleton_self _, by unfold lv; rw [h]; exact Nat.one_pos⟩

end Cert.AllReduce

end
-- ==== Proof.Regions.lean ====
/- Which elements a chunk, a half and a block are, and what a cast chunk reads block by block. -/
module

public import proofs.«01_k».proof.Proof.Sched
public import Idealize.ShloMosaic.Lib.Ring
public import Idealize.ShloMosaic.Lib.Pointwise.Index

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sets of elements -/

/-- Chunk `k`. -/
abbrev chunkR (k : Dev nD) : Rect S8192x1024 := Rect.unit (s := S8192x1024) (kOff k) S1024x1024.size (kOff_inb k)
theorem halfRect_inb (k : Dev nD) (j : Fin 2) :
    ∀ a, (![1024 * k.val + 512 * j.val, 0] : Fin 2 → ℕ) a + S512x1024.size a ≤ S8192x1024.size a := by
  have := k.isLt; have := j.isLt
  have h8 : nD = 8 := rfl
  intro a
  match a with
  | 0 => show 1024 * k.val + 512 * j.val + 512 ≤ 8192; omega
  | 1 => show 0 + 1024 ≤ 1024; omega
/-- Row half `j` of chunk `k`. -/
abbrev halfRect (k : Dev nD) (j : Fin 2) : Rect S8192x1024 :=
  Rect.unit (s := S8192x1024) ![1024 * k.val + 512 * j.val, 0] S512x1024.size (halfRect_inb k j)

theorem mem_chunk {k : Dev nD} {i : S8192x1024.Idx} : i ∈ (chunkR k).set ↔ (i 0).val / 1024 = k.val := by
  have hb : (i 1).val < 1024 := (i 1).isLt
  rw [Rect.mem_set_unit]
  refine ⟨fun h => ?_, fun h a => ?_⟩
  · have h0 : 1024 * k.val ≤ (i 0).val ∧ (i 0).val < 1024 * k.val + 1024 := h 0
    omega
  · match a with
    | 0 => show 1024 * k.val ≤ (i 0).val ∧ (i 0).val < 1024 * k.val + 1024; omega
    | 1 => show 0 ≤ (i 1).val ∧ (i 1).val < 0 + 1024; omega
theorem mem_half {k : Dev nD} {j : Fin 2} {i : S8192x1024.Idx} :
    i ∈ (halfRect k j).set ↔ (i 0).val / 1024 = k.val ∧ (i 0).val / 512 % 2 = j.val := by
  have hb : (i 1).val < 1024 := (i 1).isLt
  have := j.isLt
  rw [Rect.mem_set_unit]
  refine ⟨fun h => ?_, fun h a => ?_⟩
  · have h0 : 1024 * k.val + 512 * j.val ≤ (i 0).val ∧ (i 0).val < 1024 * k.val + 512 * j.val + 512 := h 0
    omega
  · match a with
    | 0 => show 1024 * k.val + 512 * j.val ≤ (i 0).val ∧ (i 0).val < 1024 * k.val + 512 * j.val + 512; omega
    | 1 => show 0 ≤ (i 1).val ∧ (i 1).val < 0 + 1024; omega
theorem mem_box {k : Dev nD} {j h : Fin 2} {i : S8192x1024.Idx} :
    i ∈ (boxR (bOff k j h) (bOff_inb k j h)).set
      ↔ (i 0).val / 1024 = k.val ∧ (i 0).val / 512 % 2 = j.val ∧ (i 1).val / 512 = h.val := by
  have := j.isLt
  rw [Rect.mem_set_unit]
  refine ⟨fun e => ?_, fun e a => ?_⟩
  · have h0 : 1024 * k.val + 512 * j.val ≤ (i 0).val ∧ (i 0).val < 1024 * k.val + 512 * j.val + 512 := e 0
    have h1 : 512 * h.val ≤ (i 1).val ∧ (i 1).val < 512 * h.val + 512 := e 1
    omega
  · match a with
    | 0 => show 1024 * k.val + 512 * j.val ≤ (i 0).val ∧ (i 0).val < 1024 * k.val + 512 * j.val + 512; omega
    | 1 => show 512 * h.val ≤ (i 1).val ∧ (i 1).val < 512 * h.val + 512; omega

theorem box_set (k : Dev nD) (j h : Fin 2) : (box k j h).view.set = (boxR (bOff k j h) (bOff_inb k j h)).set :=
  View.set_slice_whole _ _

/-- Where the result is held. -/
abbrev outL (c : Dev nD) : Loc nD τ sig := (c : Thread nD τ).loc cc0_stg0_0

omit [FloatOps F] in
/-- The whole is its chunks, -/
theorem out_chunks (c : Dev nD) (f : Buf (Elt F) (outL c)) :
    (outL c ↦{fullShare} f : sProp 𝕄) = bigSep Finset.univ fun k : Dev nD => outL c ↦[(chunkR k).set]{fullShare} f := by
  refine Ring.pointsTo_blocks (ℓ := outL c) (fun k : Dev nD => (chunkR k).set) ?_ ?_ f
  · intro k k' hk
    refine Finset.disjoint_left.mpr fun i hi hi' => hk (Fin.ext ?_)
    rw [← mem_chunk.mp hi, ← mem_chunk.mp hi']
  · refine Finset.eq_univ_iff_forall.mpr fun (i : S8192x1024.Idx) => Finset.mem_biUnion.mpr ⟨⟨(i 0).val / 1024, ?_⟩, Finset.mem_univ _, mem_chunk.mpr rfl⟩
    have : (i 0).val < 8192 := (i 0).isLt
    show (i 0).val / 1024 < 8; omega
omit [FloatOps F] in
/-- a chunk its halves, -/
theorem chunk_halves (c k : Dev nD) (f : Buf (Elt F) (outL c)) :
    (outL c ↦[(chunkR k).set]{fullShare} f : sProp 𝕄)
      = bigSep Finset.univ fun j : Fin 2 => outL c ↦[(halfRect k j).set]{fullShare} f := by
  refine Ring.pointsTo_sub_blocks (ℓ := outL c) (fun j : Fin 2 => (halfRect k j).set) ?_ _ ?_ f
  · intro j j' hj
    refine Finset.disjoint_left.mpr fun i hi hi' => hj (Fin.ext ?_)
    rw [← (mem_half.mp hi).2, ← (mem_half.mp hi').2]
  · ext (i : S8192x1024.Idx)
    refine Iff.trans Finset.mem_biUnion ⟨fun ⟨j, _, hj⟩ => mem_chunk.mpr (mem_half.mp hj).1, fun h => ?_⟩
    exact ⟨⟨(i 0).val / 512 % 2, Nat.mod_lt _ (by decide)⟩, Finset.mem_univ _, mem_half.mpr ⟨mem_chunk.mp h, rfl⟩⟩
omit [FloatOps F] in
/-- a half its blocks. -/
theorem half_boxes (c k : Dev nD) (j : Fin 2) (f : Buf (Elt F) (outL c)) :
    (outL c ↦[(halfRect k j).set]{fullShare} f : sProp 𝕄)
      = bigSep Finset.univ fun h : Fin 2 => outL c ↦[(box k j h).view.set]{fullShare} f := by
  refine Ring.pointsTo_sub_blocks (ℓ := outL c) (fun h : Fin 2 => (box k j h).view.set) ?_ _ ?_ f
  · intro h h' hh
    refine Finset.disjoint_left.mpr fun i hi hi' => hh (Fin.ext ?_)
    rw [box_set] at hi hi'
    rw [← (mem_box.mp hi).2.2, ← (mem_box.mp hi').2.2]
  · ext (i : S8192x1024.Idx)
    have hb : (i 1).val < 1024 := (i 1).isLt
    refine Iff.trans Finset.mem_biUnion ⟨fun ⟨h, _, hh⟩ => ?_, fun h => ?_⟩
    · rw [box_set] at hh; exact mem_half.mpr ⟨(mem_box.mp hh).1, (mem_box.mp hh).2.1⟩
    · have h2 := mem_half.mp h
      exact ⟨⟨(i 1).val / 512, by omega⟩, Finset.mem_univ _, by rw [box_set]; exact mem_box.mpr ⟨h2.1, h2.2, rfl⟩⟩

/-- The result at element `i`: the block's full sum. -/
def outV (m : (ℓ : Loc nD τ sig) → Buf (Elt F) ℓ) : S8192x1024.Idx → Elt F .bf16 := fun i =>
  S m ⟨(i 1).val / 512, by have : (i 1).val < 1024 := (i 1).isLt; omega⟩ 7
    ⟨(i 0).val / 1024, by have : (i 0).val < 8192 := (i 0).isLt; show (i 0).val / 1024 < 8; omega⟩
    ⟨(i 0).val / 512 % 2, Nat.mod_lt _ (by decide)⟩
    (ix2 ⟨(i 0).val % 512, Nat.mod_lt _ (by decide)⟩ ⟨(i 1).val % 512, Nat.mod_lt _ (by decide)⟩)

theorem box_emb0 (k : Dev nD) (j h : Fin 2) (p : S512x512.Idx) :
    (((boxR (bOff k j h) (bOff_inb k j h)).emb p) 0 : ℕ) = 1024 * k.val + 512 * j.val + (p 0).val := by
  rw [Rect.emb_apply]; show 1024 * k.val + 512 * j.val + 1 * (p 0).val = _; omega
theorem box_emb1 (k : Dev nD) (j h : Fin 2) (p : S512x512.Idx) :
    (((boxR (bOff k j h) (bOff_inb k j h)).emb p) 1 : ℕ) = 512 * h.val + (p 1).val := by
  rw [Rect.emb_apply]; show 512 * h.val + 1 * (p 1).val = _; omega

theorem S_congr (m : (ℓ : Loc nD τ sig) → Buf (Elt F) ℓ) (t : ℕ) {h h' : Fin 2} {k k' : Dev nD} {j j' : Fin 2} {p p' : S512x512.Idx}
    (hh : h = h') (hk : k = k') (hj : j = j') (hp : p = p') : S m h t k j p = S m h' t k' j' p' := by
  rw [hh, hk, hj, hp]

/-- A finished block is that block of the result. -/
theorem outV_box (m : (ℓ : Loc nD τ sig) → Buf (Elt F) ℓ) (k : Dev nD) (j h : Fin 2) :
    (box k j h).view.read (Elt F) (outV m) = S m h 7 k j := by
  funext p
  have h0 := box_emb0 k j h p
  have h1 := box_emb1 k j h p
  have hp0 : (p 0).val < 512 := (p 0).isLt
  have hp1 : (p 1).val < 512 := (p 1).isLt
  have hj := j.isLt
  rw [View.read_apply, cast_eq]
  show outV m ((boxR (bOff k j h) (bOff_inb k j h)).emb p) = _
  generalize (boxR (bOff k j h) (bOff_inb k j h)).emb p = i at h0 h1
  unfold outV
  refine S_congr m 7 (Fin.ext ?_) (Fin.ext ?_) (Fin.ext ?_) (funext fun a => ?_)
  · show (i 1).val / 512 = h.val; omega
  · show (i 0).val / 1024 = k.val; omega
  · show (i 0).val / 512 % 2 = j.val; omega
  · match a with
    | 0 => exact Fin.ext (show (i 0).val % 512 = (p 0).val by omega)
    | 1 => exact Fin.ext (show (i 1).val % 512 = (p 1).val by omega)

/-- All blocks finished: the whole result. -/
theorem boxes_out (m : (ℓ : Loc nD τ sig) → Buf (Elt F) ℓ) (c : Dev nD) :
    (bigSep Finset.univ fun k : Dev nD => bigSep Finset.univ fun j : Fin 2 => bigSep Finset.univ fun h : Fin 2 =>
        holds c (box k j h) (S m h 7 k j) : sProp 𝕄)
      ⊢ outL c ↦{fullShare} outV m := by
  rw [out_chunks]
  refine bigSep_mono fun k _ => ?_
  rw [chunk_halves]
  refine bigSep_mono fun j _ => ?_
  rw [half_boxes]
  refine bigSep_mono fun h _ => ?_
  unfold holds
  refine Entails.of_eq (pointsTo_congr fun i hi => ?_)
  obtain ⟨p, -, rfl⟩ := Finset.mem_map.mp hi
  rw [View.rep_emb, cast_eq, ← outV_box m k j h, View.read_apply, cast_eq]

end Cert.AllReduce

end
-- ==== Proof.Slots.lean ====
/- What the loads and stores of the kernel read and leave: the casts of a loaded chunk, block by block; the arrival
   slots; the loading buffer's slots; the input's chunks. -/
module

public import proofs.«01_k».proof.Proof.Regions
public import Idealize.ShloMosaic.Lib.ValueLayout

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Reading what was placed -/

/-- A slot of the loading buffer. -/
theorem stage_read (b : Fin 2) (X : Vec F S1024x1024 .f32) :
    (stageM.access (stageR b)).read (Elt F) ((stageSl b).view.rep X)
      = fun p => X ((Shape.reshapeEquiv squeezes_S1x1024x1024_S1024x1024.numel_eq).symm p) := by
  funext p
  obtain ⟨y, rfl⟩ := (Shape.reshapeEquiv squeezes_S1x1024x1024_S1024x1024.numel_eq).surjective p
  rw [Equiv.symm_apply_apply, View.read_apply]
  exact (congrArg _ (View.rep_emb (stageSl b).view X y)).trans (by rw [cast_cast, cast_eq])
/-- A half of slot 0. -/
theorem half_read (j : Fin 2) (X : Vec F S1024x1024 .f32) (p : S1x512x1024.Idx) (y : S1024x1024.Idx)
    (h0 : (y 0).val = 512 * j.val + (p 1).val) (h1 : (y 1).val = (p 2).val) :
    (stageM.access (halfR j)).read (Elt F) ((stageSl 0).view.rep X) p = X y := by
  have e : (stageM.access (halfR j)).emb p = (stageSl 0).view.emb y := by
    have hp0 : (p 0).val < 1 := (p 0).isLt
    have hy : y = ValueIdx.ix2 (n0 := 1024) (n1 := 1024) (y 0) (y 1) := by funext a; match a with | 0 => rfl | 1 => rfl
    show (halfR j).emb p = (stageR 0).emb (Shape.reshapeEquiv squeezes_S1x1024x1024_S1024x1024.numel_eq y)
    refine Eq.trans ?_ (congrArg (stageR 0).emb ((congrArg _ hy).trans (ValueIdx.reshapeEquiv_ix2_1ab (a := 1024) (b := 1024) _ _ _)).symm)
    funext a
    apply Fin.ext
    rw [Rect.emb_apply, Rect.emb_apply]
    match a with
    | 0 => show 0 + 1 * (p 0).val = 0 + 1 * 0; omega
    | 1 => show 512 * j.val + 1 * (p 1).val = 0 + 1 * (y 0).val; omega
    | 2 => show 0 + 1 * (p 2).val = 0 + 1 * (y 1).val; omega
  rw [View.read_apply, e]
  exact (congrArg _ (View.rep_emb (stageSl 0).view X y)).trans (by rw [cast_cast, cast_eq])
/-- An arrival slot. -/
theorem comm_read (h : Fin 2) (s : Fin 7) (j : Fin 2) (X : Vec F S512x512 .bf16) :
    ((commM h).access (slotR s j)).read (Elt F) ((slotM h s j).view.rep X) = as1 X := by
  funext p
  obtain ⟨y, rfl⟩ := (Shape.reshapeEquiv squeezes_S1x512x512_S512x512.numel_eq).surjective p
  unfold as1
  rw [Equiv.symm_apply_apply, View.read_apply]
  exact (congrArg _ (View.rep_emb (slotM h s j).view X y)).trans (by rw [cast_cast, cast_eq])

/-! ## A cast chunk, block by block -/

variable (m : (ℓ : Loc nD τ sig) → Buf (Elt F) ℓ)

/-- A chunk stored. -/
theorem chunk_stored (c k : Dev nD) (o : Fin 2 → ℕ) (ho : ∀ a, o a + S1024x1024.size a ≤ S8192x1024.size a) (e : o = kOff k) (b : Fin 2)
    (f : Buf (Elt F) (outL c)) (j h : Fin 2) :
    (box k j h).view.read (Elt F) ((outM.access (Rect.unit (s := S8192x1024) o S1024x1024.size ho)).write (Elt F) f
        (k0_pay3 ((stageM.access (stageR b)).read (Elt F) ((stageSl b).view.rep (xChunk m c k)))) Finset.univ) = XV m c k j h := by
  subst e
  funext p
  have hp0 : (p 0).val < 512 := (p 0).isLt
  have hp1 : (p 1).val < 512 := (p 1).isLt
  have hj := j.isLt
  have hh := h.isLt
  have hq0 : 512 * j.val + (p 0).val < 1024 := by omega
  have hq1 : 512 * h.val + (p 1).val < 1024 := by omega
  let q : S1024x1024.Idx := ValueIdx.ix2 ⟨512 * j.val + (p 0).val, hq0⟩ ⟨512 * h.val + (p 1).val, hq1⟩
  have hq : (chunkR k).emb q = (boxR (bOff k j h) (bOff_inb k j h)).emb p := by
    funext a
    apply Fin.ext
    match a with
    | 0 => rw [box_emb0, Rect.emb_apply]; show 1024 * k.val + 1 * (512 * j.val + (p 0).val) = _; omega
    | 1 => rw [box_emb1, Rect.emb_apply]; show 0 + 1 * (512 * h.val + (p 1).val) = _; omega
  rw [View.read_apply, cast_eq, stage_read]
  show (outM.access (chunkR k)).write (Elt F) f _ Finset.univ ((boxR (bOff k j h) (bOff_inb k j h)).emb p) = _
  rw [← hq]
  refine (View.write_emb_of_mem (v := outM.access (chunkR k)) f _ (Finset.mem_univ q)).trans ?_
  rw [cast_eq]
  unfold k0_pay3 XV xChunk
  show FloatOps.truncf _ _ (xin m c ((chunkR k).emb ((Shape.reshapeEquiv _).symm (Shape.reshapeEquiv _ q)))) = _
  rw [Equiv.symm_apply_apply, hq]
  rfl

/-- A half of the device's own chunk stored. -/
theorem half_stored (c : Dev nD) (j : Fin 2) (o : Fin 2 → ℕ) (ho : ∀ a, o a + S512x1024.size a ≤ S8192x1024.size a)
    (e : o = ![1024 * c.val + 512 * j.val, 0]) (f : Buf (Elt F) (outL c)) (h : Fin 2) :
    (box c j h).view.read (Elt F) ((outM.access (Rect.unit (s := S8192x1024) o S512x1024.size ho)).write (Elt F) f
        (k0_pay1 ((stageM.access (halfR j)).read (Elt F) ((stageSl 0).view.rep (xChunk m c c)))) Finset.univ) = XV m c c j h := by
  subst e
  funext p
  have hp0 : (p 0).val < 512 := (p 0).isLt
  have hp1 : (p 1).val < 512 := (p 1).isLt
  have hj := j.isLt
  have hh := h.isLt
  have hq0 : 512 * j.val + (p 0).val < 1024 := by omega
  have hq1 : 512 * h.val + (p 1).val < 1024 := by omega
  let q : S512x1024.Idx := ValueIdx.ix2 ⟨(p 0).val, hp0⟩ ⟨512 * h.val + (p 1).val, hq1⟩
  let y : S1024x1024.Idx := ValueIdx.ix2 ⟨512 * j.val + (p 0).val, hq0⟩ ⟨512 * h.val + (p 1).val, hq1⟩
  have hq : (halfRect c j).emb q = (boxR (bOff c j h) (bOff_inb c j h)).emb p := by
    funext a
    apply Fin.ext
    match a with
    | 0 => rw [box_emb0, Rect.emb_apply]; show 1024 * c.val + 512 * j.val + 1 * (p 0).val = _; omega
    | 1 => rw [box_emb1, Rect.emb_apply]; show 0 + 1 * (512 * h.val + (p 1).val) = _; omega
  have hy : (chunkR c).emb y = (boxR (bOff c j h) (bOff_inb c j h)).emb p := by
    funext a
    apply Fin.ext
    match a with
    | 0 => rw [box_emb0, Rect.emb_apply]; show 1024 * c.val + 1 * (512 * j.val + (p 0).val) = _; omega
    | 1 => rw [box_emb1, Rect.emb_apply]; show 0 + 1 * (512 * h.val + (p 1).val) = _; omega
  rw [View.read_apply, cast_eq]
  show (outM.access (halfRect c j)).write (Elt F) f _ Finset.univ ((boxR (bOff c j h) (bOff_inb c j h)).emb p) = _
  rw [← hq]
  refine (View.write_emb_of_mem (v := outM.access (halfRect c j)) f _ (Finset.mem_univ q)).trans ?_
  rw [cast_eq]
  unfold k0_pay1 XV
  show FloatOps.truncf _ _ ((stageM.access (halfR j)).read (Elt F) _ (Shape.reshapeEquiv _ (ValueIdx.ix2 _ _))) = FloatOps.truncf _ _ (xin m c _)
  rw [ValueIdx.reshapeEquiv_ix2_1ab (a := 512) (b := 1024), half_read j (xChunk m c c) _ y rfl rfl]
  unfold xChunk
  rw [hy]

/-! ## Buffers as their slots -/

theorem slot_mem (s : Fin 7) (j : Fin 2) (i : S7x1024x512.Idx) :
    i ∈ (slotR s j).set ↔ (i 0).val = s.val ∧ (i 1).val / 512 = j.val := by
  have hb : (i 2).val < 512 := (i 2).isLt
  have := j.isLt
  rw [Rect.mem_set_unit]
  refine ⟨fun h => ?_, fun h a => ?_⟩
  · have h0 : s.val ≤ (i 0).val ∧ (i 0).val < s.val + 1 := h 0
    have h1 : 512 * j.val ≤ (i 1).val ∧ (i 1).val < 512 * j.val + 512 := h 1
    omega
  · match a with
    | 0 => show s.val ≤ (i 0).val ∧ (i 0).val < s.val + 1; omega
    | 1 => show 512 * j.val ≤ (i 1).val ∧ (i 1).val < 512 * j.val + 512; omega
    | 2 => show 0 ≤ (i 2).val ∧ (i 2).val < 0 + 512; omega

/-- The reduce-scatter events of a direction. -/
abbrev evs (h : Fin 2) : Finset ℕ := (Finset.range 28).filter fun n => hOf n = h
/-- The elements of an event's arrival slot. -/
abbrev evSet (n : ℕ) : Finset S7x1024x512.Idx := (slotR (sOf n) (jOf n)).set

theorem evs_mem {h : Fin 2} {n : ℕ} : n ∈ evs h ↔ n < 28 ∧ n % 2 = h.val := by
  rw [Finset.mem_filter, Finset.mem_range]
  exact and_congr_right fun _ => ⟨fun e => congrArg Fin.val e, fun e => Fin.ext e⟩
theorem evSet_mem {n : ℕ} (i : S7x1024x512.Idx) : i ∈ evSet n ↔ (i 0).val = n / 4 % 7 ∧ (i 1).val / 512 = n / 2 % 2 := slot_mem _ _ i
theorem evSet_disjoint (h : Fin 2) : ∀ n ∈ evs h, ∀ n' ∈ evs h, n ≠ n' → Disjoint (evSet n) (evSet n') := by
  intro n hn n' hn' hne
  rw [evs_mem] at hn hn'
  refine Finset.disjoint_left.mpr fun i hi hi' => hne ?_
  rw [evSet_mem] at hi hi'
  omega
theorem evSet_cover (h : Fin 2) : (evs h).biUnion evSet = Finset.univ := by
  refine Finset.eq_univ_iff_forall.mpr fun i => Finset.mem_biUnion.mpr ⟨4 * (i 0).val + 2 * ((i 1).val / 512) + h.val, ?_, ?_⟩
  · have h0 : (i 0).val < 7 := (i 0).isLt
    have h1 : (i 1).val < 1024 := (i 1).isLt
    have := h.isLt
    rw [evs_mem]; omega
  · have h0 : (i 0).val < 7 := (i 0).isLt
    have h1 : (i 1).val < 1024 := (i 1).isLt
    have := h.isLt
    rw [evSet_mem]; omega

theorem slot_set0 (s : Fin 7) (j : Fin 2) : (slotM 0 s j).view.set = (slotR s j).set :=
  (View.set_reshape _ _).trans (View.set_slice_whole (cc0_scratch1) _)
theorem slot_set1 (s : Fin 7) (j : Fin 2) : (slotM 1 s j).view.set = (slotR s j).set :=
  (View.set_reshape _ _).trans (View.set_slice_whole (cc0_scratch2) _)

/-- An arrival buffer of direction 0 as its slots, -/
theorem comm0_split (c : Dev nD) :
    (iprop(∃ f, (c : Thread nD τ).loc cc0_scratch1 ↦{fullShare} f) : sProp 𝕄)
      ⊢ bigSep (evs 0) fun n => some_ c (evSlot n) := by
  have h (f : Buf (Elt F) ((c : Thread nD τ).loc cc0_scratch1)) : ((c : Thread nD τ).loc cc0_scratch1 ↦{fullShare} f : sProp 𝕄)
      ⊢ bigSep (evs 0) fun n => some_ c (evSlot n) := by
    rw [← evSet_cover 0, pointsTo_biUnion _ _ (evSet_disjoint 0)]
    refine bigSep_mono fun n hn => ?_
    show _ ⊢ some_ c (slotM (hOf n) (sOf n) (jOf n))
    rw [(Finset.mem_filter.mp hn).2, show evSet n = (slotM 0 (sOf n) (jOf n)).view.set from (slot_set0 _ _).symm]
    unfold some_
    iintro H; iexists f; iexact H
  iintro ⟨%f, H⟩
  iapply (h f) $$ H
/-- and back. -/
theorem comm0_join (c : Dev nD) :
    (bigSep (evs 0) fun n => some_ (F := F) c (evSlot n) : sProp 𝕄)
      ⊢ iprop(∃ f, (c : Thread nD τ).loc cc0_scratch1 ↦{fullShare} f) := by
  have h : (bigSep (evs 0) fun n => some_ (F := F) c (evSlot n) : sProp 𝕄)
      ⊢ bigSep (evs 0) fun n => iprop(∃ f, (c : Thread nD τ).loc cc0_scratch1 ↦[evSet n]{fullShare} f) :=
    bigSep_mono fun n hn => by
      show some_ c (slotM (hOf n) (sOf n) (jOf n)) ⊢ _
      rw [(Finset.mem_filter.mp hn).2, show evSet n = (slotM 0 (sOf n) (jOf n)).view.set from (slot_set0 _ _).symm]; exact Entails.of_eq rfl
  refine h.trans ((bigSep_exists_pi _ _).trans ?_)
  iintro ⟨%fs, H⟩
  ihave H := (pointsTo_biUnion_join _ _ fs (fs 0) (evSet_disjoint 0)) $$ H
  rw [evSet_cover]
  icases H with ⟨%g, -, H⟩
  iexists g; iexact H
/-- The same for direction 1, -/
theorem comm1_split (c : Dev nD) :
    (iprop(∃ f, (c : Thread nD τ).loc cc0_scratch2 ↦{fullShare} f) : sProp 𝕄)
      ⊢ bigSep (evs 1) fun n => some_ c (evSlot n) := by
  have h (f : Buf (Elt F) ((c : Thread nD τ).loc cc0_scratch2)) : ((c : Thread nD τ).loc cc0_scratch2 ↦{fullShare} f : sProp 𝕄)
      ⊢ bigSep (evs 1) fun n => some_ c (evSlot n) := by
    rw [← evSet_cover 1, pointsTo_biUnion _ _ (evSet_disjoint 1)]
    refine bigSep_mono fun n hn => ?_
    show _ ⊢ some_ c (slotM (hOf n) (sOf n) (jOf n))
    rw [(Finset.mem_filter.mp hn).2, show evSet n = (slotM 1 (sOf n) (jOf n)).view.set from (slot_set1 _ _).symm]
    unfold some_
    iintro H; iexists f; iexact H
  iintro ⟨%f, H⟩
  iapply (h f) $$ H
/-- and back. -/
theorem comm1_join (c : Dev nD) :
    (bigSep (evs 1) fun n => some_ (F := F) c (evSlot n) : sProp 𝕄)
      ⊢ iprop(∃ f, (c : Thread nD τ).loc cc0_scratch2 ↦{fullShare} f) := by
  have h : (bigSep (evs 1) fun n => some_ (F := F) c (evSlot n) : sProp 𝕄)
      ⊢ bigSep (evs 1) fun n => iprop(∃ f, (c : Thread nD τ).loc cc0_scratch2 ↦[evSet n]{fullShare} f) :=
    bigSep_mono fun n hn => by
      show some_ c (slotM (hOf n) (sOf n) (jOf n)) ⊢ _
      rw [(Finset.mem_filter.mp hn).2, show evSet n = (slotM 1 (sOf n) (jOf n)).view.set from (slot_set1 _ _).symm]; exact Entails.of_eq rfl
  refine h.trans ((bigSep_exists_pi _ _).trans ?_)
  iintro ⟨%fs, H⟩
  ihave H := (pointsTo_biUnion_join _ _ fs (fs 0) (evSet_disjoint 1)) $$ H
  rw [evSet_cover]
  icases H with ⟨%g, -, H⟩
  iexists g; iexact H

theorem stage_mem (b : Fin 2) (i : S2x1024x1024.Idx) : i ∈ (stageR b).set ↔ (i 0).val = b.val := by
  have hb : (i 1).val < 1024 := (i 1).isLt
  have hb : (i 2).val < 1024 := (i 2).isLt
  rw [Rect.mem_set_unit]
  refine ⟨fun h => ?_, fun h a => ?_⟩
  · have h0 : b.val ≤ (i 0).val ∧ (i 0).val < b.val + 1 := h 0
    omega
  · match a with
    | 0 => show b.val ≤ (i 0).val ∧ (i 0).val < b.val + 1; omega
    | 1 => show 0 ≤ (i 1).val ∧ (i 1).val < 0 + 1024; omega
    | 2 => show 0 ≤ (i 2).val ∧ (i 2).val < 0 + 1024; omega
theorem stage_set (b : Fin 2) : (stageSl b).view.set = (stageR b).set :=
  (View.set_reshape _ _).trans (View.set_slice_whole (cc0_scratch0) _)
theorem stage_disjoint (b b' : Fin 2) (h : b ≠ b') : Disjoint (stageR b).set (stageR b').set :=
  Finset.disjoint_left.mpr fun i hi hi' => h (Fin.ext ((stage_mem b i).mp hi ▸ (stage_mem b' i).mp hi'))
theorem stage_cover : Finset.univ.biUnion (fun b : Fin 2 => (stageR b).set) = Finset.univ :=
  Finset.eq_univ_iff_forall.mpr fun (i : S2x1024x1024.Idx) => Finset.mem_biUnion.mpr
    ⟨⟨(i 0).val, (i 0).isLt⟩, Finset.mem_univ _, (stage_mem _ i).mpr rfl⟩

/-- The loading buffer as its slots, -/
theorem stage_split (c : Dev nD) :
    (iprop(∃ f, (c : Thread nD τ).loc cc0_scratch0 ↦{fullShare} f) : sProp 𝕄)
      ⊢ iprop(some_ c (stageSl 0) ∗ some_ c (stageSl 1)) := by
  have e (f : Buf (Elt F) ((c : Thread nD τ).loc cc0_scratch0)) := Ring.pointsTo_blocks (Ix := Unit) (Name := ℕ) (U := UU) (Lvl := ℕ) (q := fullShare)
    (ℓ := (c : Thread nD τ).loc cc0_scratch0) (fun b : Fin 2 => (stageR b).set) stage_disjoint stage_cover f
  iintro ⟨%f, H⟩
  ihave H := (Entails.of_eq ((e f).trans (Ring.bigSep_fin2 _))) $$ H
  rw [← stage_set, ← stage_set]
  icases H with ⟨H0, H1⟩
  unfold some_
  isplitl [H0]
  · iexists f; iexact H0
  · iexists f; iexact H1
/-- and back. -/
theorem stage_join (c : Dev nD) :
    (iprop(some_ (F := F) c (stageSl 0) ∗ some_ (F := F) c (stageSl 1)) : sProp 𝕄)
      ⊢ iprop(∃ f, (c : Thread nD τ).loc cc0_scratch0 ↦{fullShare} f) := by
  have h (f : Buf (Elt F) ((c : Thread nD τ).loc cc0_scratch0)) := Ring.pointsTo_blocks_join_exists (Ix := Unit) (Name := ℕ) (U := UU) (Lvl := ℕ)
    (q := fullShare) (ℓ := (c : Thread nD τ).loc cc0_scratch0) (fun b : Fin 2 => (stageR b).set) stage_disjoint stage_cover f
  rw [Ring.bigSep_fin2, ← stage_set, ← stage_set] at h
  unfold some_
  iintro ⟨⟨%f, H0⟩, H1⟩
  iapply (h f)
  isplitl [H0]
  · iexists f; iexact H0
  · iexact H1

theorem ldK_inj : ∀ (c : Dev nD) (i i' : Fin 8), ldK i c = ldK i' c → i = i' := by decide +kernel
theorem ldK_surj : ∀ (c k : Dev nD), ∃ i : Fin 8, ldK i c = k := by decide +kernel

theorem xCh_set (c : Dev nD) (i : Fin 8) : (xCh c i).view.set = (chunkR (ldK i c)).set := by
  refine (View.set_slice_whole main_arg0 _).trans ?_
  refine Finset.ext fun (y : S8192x1024.Idx) => ?_
  refine Rect.mem_set_unit.trans (Iff.trans ?_ Rect.mem_set_unit.symm)
  rw [off1_eq]
  exact Iff.rfl

/-- The input as the chunks the loads read. -/
theorem x_chunks (c : Dev nD) :
    ((c : Thread nD τ).loc main_arg0 ↦{fullShare} m ((c : Thread nD τ).loc main_arg0) : sProp 𝕄)
      = bigSep Finset.univ fun i : Fin 8 => xPts m c i := by
  refine (Ring.pointsTo_blocks (ℓ := (c : Thread nD τ).loc main_arg0) (fun i : Fin 8 => (chunkR (ldK i c)).set) ?_ ?_ _).trans ?_
  · intro i i' hi
    refine Finset.disjoint_left.mpr fun y hy hy' => hi (ldK_inj c i i' (Fin.ext ?_))
    rw [← mem_chunk.mp hy, ← mem_chunk.mp hy']
  · refine Finset.eq_univ_iff_forall.mpr fun (y : S8192x1024.Idx) => Finset.mem_biUnion.mpr ?_
    have : (y 0).val < 8192 := (y 0).isLt
    obtain ⟨i, hi⟩ := ldK_surj c ⟨(y 0).val / 1024, by show (y 0).val / 1024 < 8; omega⟩
    exact ⟨i, Finset.mem_univ _, mem_chunk.mpr (by rw [hi])⟩
  · refine bigSep_congr fun i _ => ?_
    unfold xPts
    rw [xCh_set]

end Cert.AllReduce

end
-- ==== Proof.Triple.lean ====
/- Statements in sequence: what a statement needs and what it leaves, put together. -/
module

public import proofs.«01_k».proof.Proof.Slots

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What `p` on device `c` needs to end with `Q`. -/
abbrev Wp (c : Dev nD) (p : Stmt F) (Q : PUnit.{1} → sProp 𝕄) : sProp 𝕄 :=
  wp frame (wpE (defs₀ (F := F)) 𝒱₀ (c : Thread nD τ) none) Set.univ p Q

/-- From `A`, the statement `p` on device `c` leads to `B`. -/
def Tr (c : Dev nD) (A : sProp 𝕄) (p : Stmt F) (B : sProp 𝕄) : Prop :=
  ∀ (k : PUnit.{1} → Stmt F) (Q : PUnit.{1} → sProp 𝕄), A ⊢ iprop((B -∗ Wp c (k ⟨⟩) Q) -∗ Wp c (p >>= k) Q)

variable {c : Dev nD} {A A' B B' C : sProp (MT nD τ sig Unit (Elt F) ℕ UU ℕ)} {p q : Stmt F}

theorem Tr.skip : Tr c A (pure ⟨⟩) A := fun k Q => by
  rw [Prog.pure_eq_ret, Prog.bind_ret]
  iintro HA Hk
  iapply Hk; iexact HA

theorem Tr.seq (h₁ : Tr c A p B) (h₂ : Tr c B q C) : Tr c A (p >>= fun _ => q) C := fun k Q => by
  rw [Prog.bind_assoc]
  iintro HA Hk
  iapply (h₁ (fun _ => q >>= k) Q) $$ HA
  iintro HB
  iapply (h₂ k Q) $$ HB
  iexact Hk

theorem Tr.frame (R : sProp 𝕄) (h : Tr c A p B) : Tr c iprop(A ∗ R) p iprop(B ∗ R) := fun k Q => by
  iintro ⟨HA, HR⟩ Hk
  iapply (h k Q) $$ HA
  iintro HB
  iapply Hk
  isplitl [HB] <;> iassumption

theorem Tr.conseq (hA : A' ⊢ A) (h : Tr c A p B) (hB : B ⊢ B') : Tr c A' p B' := fun k Q => by
  iintro HA Hk
  ihave HA := hA $$ HA
  iapply (h k Q) $$ HA
  iintro HB
  iapply Hk
  iapply hB $$ HB

/-- A step of a bigger state. -/
theorem Tr.on (R : sProp 𝕄) (hA : A' ⊢ iprop(A ∗ R)) (h : Tr c A p B) (hB : iprop(B ∗ R) ⊢ B') : Tr c A' p B' :=
  (h.frame R).conseq hA hB

theorem Tr.nil : Tr c A (seqs []) A := Tr.skip
theorem Tr.cons {ps : List (Stmt F)} (h₁ : Tr c A p B) (h₂ : Tr c B (seqs ps) C) : Tr c A (seqs (p :: ps)) C := h₁.seq h₂
theorem seqs_append (ps qs : List (Stmt F)) : seqs (ps ++ qs) = (seqs ps >>= fun _ => seqs qs) := by
  induction ps with
  | nil => rfl
  | cons p ps ih => rw [List.cons_append, seqs, seqs, Prog.bind_assoc]; exact congrArg (p >>= ·) (funext fun _ => ih)
theorem Tr.append {ps qs : List (Stmt F)} (h₁ : Tr c A (seqs ps) B) (h₂ : Tr c B (seqs qs) C) : Tr c A (seqs (ps ++ qs)) C := by
  rw [seqs_append]; exact h₁.seq h₂

/-- At the end of a program. -/
theorem Tr.done (h : Tr c A p B) (Q : PUnit.{1} → sProp 𝕄) : A ⊢ iprop((B -∗ Q ⟨⟩) -∗ Wp c p Q) := by
  have e := h (fun _ => pure ⟨⟩) Q
  have e' : (p >>= fun _ => (pure ⟨⟩ : Stmt F)) = p := Prog.bind_pure p
  rw [e'] at e
  simp only [Prog.pure_eq_ret, wp_ret] at e
  iintro HA Hk
  iapply e $$ HA
  iintro HB
  imodintro
  iapply Hk $$ HB

/-! ## Records of the cells -/

variable (m : (ℓ : Loc nD τ sig) → Buf (Elt F) ℓ)

/-- A cell of a device: its barrier's, or an own semaphore's. -/
abbrev CKey : Type := Unit ⊕ OwnKey
abbrev cSem (x : CKey) : SemLoc sig := Sum.elim (fun _ => .reg barS) osem x
abbrev kCell (x : Dev nD × CKey) : GSem nD τ sig := ((x.1 : Thread nD τ), cSem x.2)

/-- Every cell's record: its invariant, and that its round is open; and the levels. -/
def ctx (K : Dev nD × CKey → ℕ) : sProp 𝕄 :=
  iprop((bigSep Finset.univ fun x : Dev nD × CKey => iprop(cellInv ER (Rd m) (K x) (kCell x) ∗ reached ER (kCell x) 0)) ∗ levAts L lv)

instance ctx_persistent (K : Dev nD × CKey → ℕ) : BI.Persistent (ctx m K : sProp 𝕄) := by unfold ctx; infer_instance

variable (K : Dev nD × CKey → ℕ)

theorem ctx_cell (x : Dev nD × CKey) : ctx m K ⊢ iprop(cellInv ER (Rd m) (K x) (kCell x) ∗ reached ER (kCell x) 0) := by
  have h : (bigSep Finset.univ fun x : Dev nD × CKey => iprop(cellInv ER (Rd m) (K x) (kCell x) ∗ reached ER (kCell x) 0))
      ⊢ iprop(cellInv ER (Rd m) (K x) (kCell x) ∗ reached ER (kCell x) 0) := BI.bigSep_elim (Finset.mem_univ x)
  unfold ctx
  iintro ⟨H, -⟩
  iapply h $$ H
theorem ctx_own (c : Dev nD) (k : OwnKey) : ctx m K ⊢ iprop(cellInv ER (Rd m) (K (c, .inr k)) (ownCell c k) ∗ reached ER (ownCell c k) 0) :=
  ctx_cell m K (c, .inr k)
theorem ctx_bar (c : Dev nD) : ctx m K ⊢ iprop(cellInv ER (Rd m) (K (c, .inl ())) (barCell c) ∗ reached ER (barCell c) 0) :=
  ctx_cell m K (c, .inl ())
theorem ctx_lev : ctx m K ⊢ levAts L lv := by
  unfold ctx
  iintro ⟨-, H⟩; iexact H

/-- Device `c` owes `O`. -/
def ow (c : Dev nD) (O : CellTallies nD τ sig Unit) : sProp 𝕄 := iprop(∃ W, owes (c : Thread nD τ) O W)

/-- A wait on an own semaphore, owing the events from `n` on: what its duty hands over, and the semaphore back at zero. -/
theorem wait_own (c : Dev nD) (k : OwnKey) (N n : ℕ) (hN : units (dOwn k) = N) (hlv : lvS (osem k) < 2 + n)
    {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (osem k) N X) :
    Tr c iprop(ctx m K ∗ cred (tallyAt (ownCell c k) () N) ∗ atPos ER (ownCell c k) 0 ∅ 0 ∗ ow c (Owed n c)) (Prog.lift w)
      iprop(semVal (ownCell c k) 0 ∗ pay m c (dOwn k) ∗ ow c (Owed n c)) := fun kk Q => by
  simp only [Prog.lift, Prog.bind_op, Prog.bind_ret]
  unfold ow
  iintro ⟨#HC, Hcr, Hat, ⟨%W, HO⟩⟩ Hk
  ihave #⟨HI, HR⟩ := (ctx_own m K c k) $$ HC
  ihave #HL := (ctx_lev m K) $$ HC
  iapply (Rounds.wp_wait_rest_token 𝒱₀ ER (Rd m) (c : Thread nD τ) none (κ := K (c, .inr k)) (sm := osem k) (k' := N)
      hw (Set.mem_univ _) () (O := Owed n c) (W := W) (R := 0) (m := 0) (T := ∅)
      (by rw [Nat.zero_add]; exact hN.symm.trans (expect_own m c k).symm)) $$ [Hcr HO Hat]
  · isplitr; · iexact HI
    isplitl [Hcr]; · iexact Hcr
    isplitl [HO]; · iexact HO
    isplitr; · iapply (mayWait_owed c (osem k) n hlv); iexact HL
    iexact Hat
  iintro ⟨HO, Hat, -, Hpay⟩
  ihave Hpay := (Entails.of_eq (rest_own m c k)) $$ Hpay
  imod (Rounds.cell_close ER (Rd m) (Set.mem_univ (K (c, .inr k))) (fun h => h) (R := 0 + 1) (duties_later m (ownCell c k))) $$ [Hat] with Hz
  · isplitr; · iexact HI
    iexact Hat
  iapply Hk
  isplitl [Hz]; · iexact Hz
  isplitl [Hpay]; · iexact Hpay
  iexists _; iexact HO

end Cert.AllReduce

end
-- ==== Proof.Steps.lean ====
/- What each statement of the body needs and leaves. -/
module

public import proofs.«01_k».proof.Proof.Triple

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem NS_eq : NS = 16384 := View.dmaCredit_closed (box 0 0 0).view S512x512 rfl 0 rfl _ (by decide +kernel)
theorem box_credit (o : Fin 2 → ℕ) (ho : ∀ a, o a + S512x512.size a ≤ S8192x1024.size a) : (boxM o ho).view.dmaCredit = NS :=
  (View.dmaCredit_closed (boxM o ho).view S512x512 rfl (boxM o ho).view.buf rfl _ rfl).trans
    (View.dmaCredit_closed (box 0 0 0).view S512x512 rfl (boxM o ho).view.buf rfl _ rfl).symm
theorem slot_credit (h : Fin 2) (s : Fin 7) (j : Fin 2) : (slotM h s j).view.dmaCredit = NS := by
  rw [NS_eq]
  by_cases hh : h = 0
  · subst hh; exact View.dmaCredit_closed (slotM 0 s j).view S512x512 rfl 2 rfl _ (by decide +kernel)
  · obtain rfl := fin2_ne hh; exact View.dmaCredit_closed (slotM 1 s j).view S512x512 rfl 3 rfl _ (by decide +kernel)
theorem stage_credit (b : Fin 2) : (stageSl b).view.dmaCredit = NL :=
  (View.dmaCredit_closed (stageSl b).view S1024x1024 rfl (stageSl 0).view.buf rfl _ rfl).trans
    (View.dmaCredit_closed (stageSl 0).view S1024x1024 rfl (stageSl 0).view.buf rfl _ rfl).symm

theorem units_load (i : Fin 8) : units (dOwn (kLoad i)) = NL := by unfold units; rw [Sum.elim_inr, Sum.elim_inl]
theorem units_ev (k : Fin 56 ⊕ Fin 56) : units (dOwn (.inr k)) = NS := by unfold units; rw [Sum.elim_inr, Sum.elim_inr]

attribute [local irreducible] NS NL

variable (m : (ℓ : Loc nD τ sig) → Buf (Elt F) ℓ) (K : Dev nD × CKey → ℕ) (c : Dev nD)

/-! ## Loads -/

theorem xCh_read (i : Fin 8) : (xCh c i).view.read (Elt F) (m ((c : Thread nD τ).loc main_arg0)) = xChunk m c (ldK i c) := by
  funext p
  have e : (Rect.unit (s := S8192x1024) (k0_off1 c (k0_off1_at i)) S1024x1024.size (k0_off1_inb c i)).emb p = (chunkR (ldK i c)).emb p := by
    funext a; apply Fin.ext
    rw [Rect.emb_apply, Rect.emb_apply]
    show k0_off1 c (k0_off1_at i) a + 1 * (p a).val = kOff (ldK i c) a + 1 * (p a).val
    rw [off1_eq]
  rw [View.read_apply, cast_eq]
  exact congrArg (xin m c) e

/-- Starting load `i`. -/
theorem tr_ldStart (i : Fin 8) :
    Tr c iprop(ctx m K ∗ xPts m c i ∗ some_ c (stageSl (bOf i)) ∗ dutyTok ER (ownCell c (kLoad i)) 0 (dOwn (kLoad i)))
      (ldStart c i) iprop(cred (tallyAt (ownCell c (kLoad i)) () NL)) := fun k Q => by
  unfold ldStart xPts some_
  simp only [Prog.lift, Prog.bind_op, Prog.bind_ret]
  iintro ⟨#HC, Hx, ⟨%f, Hs⟩, Ht⟩ Hk
  ihave #⟨HI, HR⟩ := (ctx_own m K c (kLoad i)) $$ HC
  iapply (Rounds.wp_copy_pointsTo 𝒱₀ ER (Rd m) (c : Thread nD τ) none (κ := K (c, .inr (kLoad i))) (r := 0) (d := dOwn (kLoad i))
      (mem_duties m c (dOwn (kLoad i))) () NL (stage_credit _) (units_load i) ?_) $$ [Hx Hs Ht]
  · show _ ⊢ loadPay m c i
    unfold loadPay xPts
    refine sep_mono_left ?_
    rw [xCh_read]
    exact holds_of_write c (stageSl (bOf i)) f (xChunk m c (ldK i c))
  · isplitr; · iexact HI
    isplitl [Hx]; · iexact Hx
    isplitl [Hs]; · iexact Hs
    isplitl [Ht]; · iexact Ht
    iexact HR
  iexact Hk

/-- Waiting for load `i`. -/
theorem tr_ldWait (i : Fin 8) (n : ℕ) :
    Tr c iprop(ctx m K ∗ cred (tallyAt (ownCell c (kLoad i)) () NL) ∗ atPos ER (ownCell c (kLoad i)) 0 ∅ 0 ∗ ow c (Owed n c))
      (ldWait c i) iprop(semVal (ownCell c (kLoad i)) 0 ∗ loadPay m c i ∗ ow c (Owed n c)) :=
  wait_own m K c (kLoad i) NL n (units_load i) (by rw [lv_load]; omega)
    (fun X => (wpE_waitDma2_eq 𝒱₀ (c : Thread nD τ) none Set.univ X).trans (by rw [stage_credit]; rfl))

end Cert.AllReduce

end
-- ==== Proof.Casts.lean ====
/- Casting a loaded chunk into the result. -/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

/-- A chunk of the result, as yet unwritten. -/
def rawChunk (k : Dev nD) : sProp 𝕄 := iprop(∃ f : Buf (Elt F) (outL c), outL c ↦[(chunkR k).set]{fullShare} f)
/-- Half of it. -/
def rawHalf (k : Dev nD) (j : Fin 2) : sProp 𝕄 := iprop(∃ f : Buf (Elt F) (outL c), outL c ↦[(halfRect k j).set]{fullShare} f)
/-- Block (chunk `k`, row half `j`, direction `h`) of the result, holding the device's own input, cast. -/
abbrev cast1 (k : Dev nD) (j h : Fin 2) : sProp 𝕄 := holds c (box k j h) (XV m c k j h)

theorem tr_conv (i : Fin 7) :
    Tr c iprop(holds c (stageSl (bOf i.succ)) (xChunk m c (ldK i.succ c)) ∗ rawChunk c (ldK i.succ c))
      (conv c i)
      iprop(some_ c (stageSl (bOf i.succ)) ∗ bigSep Finset.univ fun j : Fin 2 => bigSep Finset.univ fun h : Fin 2 => cast1 m c (ldK i.succ c) j h) := fun k Q => by
  have hset : (outM.access (chR c i)).set = (chunkR (ldK i.succ c)).set := by
    refine (View.set_slice_whole cc0_stg0_0 _).trans (Finset.ext fun (y : S8192x1024.Idx) => ?_)
    refine Rect.mem_set_unit.trans (Iff.trans ?_ Rect.mem_set_unit.symm)
    rw [off5_eq]
    exact Iff.rfl
  have hpost (f : Buf (Elt F) (outL c)) : (outL c ↦[(chunkR (ldK i.succ c)).set]{fullShare}
      ((outM.access (chR c i)).write (Elt F) f (k0_pay3 ((stageM.access (stageR (bOf i.succ))).read (Elt F) ((stageSl (bOf i.succ)).view.rep (xChunk m c (ldK i.succ c))))) Finset.univ) : sProp 𝕄)
      ⊢ bigSep Finset.univ fun j : Fin 2 => bigSep Finset.univ fun h : Fin 2 => cast1 m c (ldK i.succ c) j h := by
    rw [chunk_halves]
    refine bigSep_mono fun j _ => ?_
    rw [half_boxes]
    refine bigSep_mono fun h _ => ?_
    exact holds_of_read c (box (ldK i.succ c) j h) _ _ (chunk_stored m c (ldK i.succ c) _ (k0_off5_inb c i) (off5_eq i c) (bOf i.succ) f j h)
  unfold conv holds rawChunk
  simp only [Prog.lift, Prog.bind_op, Prog.bind_ret]
  iintro ⟨Hs, ⟨%f, Ho⟩⟩ Hk
  iapply (wp_load_rect 𝒱₀ (c : Thread nD τ) none Set.univ (m := stageM) (r := stageR (bOf i.succ)) (S := (stageSl (bOf i.succ)).view.set)
    (View.set_reshape _ _).symm.subset) $$ Hs
  iintro Hs
  iapply (wp_load_rect 𝒱₀ (c : Thread nD τ) none Set.univ (m := outM) (r := chR c i) hset.subset) $$ Ho
  iintro Ho
  iapply (wp_store 𝒱₀ (c : Thread nD τ) none Set.univ (m := outM) (r := chR c i) (Mk := Finset.univ) hset.subset) $$ Ho
  iintro Ho
  iapply Hk
  isplitl [Hs]
  · unfold some_
    iexists _
    iexact Hs
  · iapply (hpost f) $$ Ho

theorem tr_ownConv (j : Fin 2) :
    Tr c iprop(holds c (stageSl 0) (xChunk m c c) ∗ rawHalf c c j)
      (ownConv c j)
      iprop(holds c (stageSl 0) (xChunk m c c) ∗ bigSep Finset.univ fun h : Fin 2 => cast1 m c c j h) := fun k Q => by
  have hset : (outM.access (ownR c j)).set = (halfRect c j).set := by
    refine (View.set_slice_whole cc0_stg0_0 _).trans (Finset.ext fun (y : S8192x1024.Idx) => ?_)
    refine Rect.mem_set_unit.trans (Iff.trans ?_ Rect.mem_set_unit.symm)
    rw [off2_eq]
    exact Iff.rfl
  have hsub : (stageM.access (halfR j)).set ⊆ (stageSl 0).view.set := by
    rw [stage_set]
    refine (View.set_slice_whole cc0_scratch0 (halfR j)).subset.trans fun (y : S2x1024x1024.Idx) hy => (stage_mem 0 y).mpr ?_
    have h0 : 0 ≤ (y 0).val ∧ (y 0).val < 0 + 1 := (Rect.mem_set_unit.mp hy) 0
    show (y 0).val = 0
    omega
  have hpost (f : Buf (Elt F) (outL c)) : (outL c ↦[(halfRect c j).set]{fullShare}
      ((outM.access (ownR c j)).write (Elt F) f (k0_pay1 ((stageM.access (halfR j)).read (Elt F) ((stageSl 0).view.rep (xChunk m c c)))) Finset.univ) : sProp 𝕄)
      ⊢ bigSep Finset.univ fun h : Fin 2 => cast1 m c c j h := by
    rw [half_boxes]
    refine bigSep_mono fun h _ => ?_
    exact holds_of_read c (box c j h) _ _ (half_stored m c j _ (k0_off2_inb c j) (off2_eq j c) f h)
  unfold ownConv holds rawHalf
  simp only [Prog.lift, Prog.bind_op, Prog.bind_ret]
  iintro ⟨Hs, ⟨%f, Ho⟩⟩ Hk
  iapply (wp_load_rect 𝒱₀ (c : Thread nD τ) none Set.univ (m := stageM) (r := halfR j) hsub) $$ Hs
  iintro Hs
  iapply (wp_load_rect 𝒱₀ (c : Thread nD τ) none Set.univ (m := outM) (r := ownR c j) hset.subset) $$ Ho
  iintro Ho
  iapply (wp_store 𝒱₀ (c : Thread nD τ) none Set.univ (m := outM) (r := ownR c j) (Mk := Finset.univ) hset.subset) $$ Ho
  iintro Ho
  iapply Hk
  isplitl [Hs]; · iexact Hs
  iapply (hpost f) $$ Ho

end Cert.AllReduce

end
-- ==== Proof.Sends.lean ====
/- Sending an event: what it takes, and that nothing but a credit is kept. -/
module

public import proofs.«01_k».proof.Proof.Steps

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What travels -/

/-- The blocks that the sender of event `n` hands over besides its own. -/
def pass (n : ℕ) (k : Dev nD) : sProp 𝕄 :=
  bigSep (if n < 28 then Finset.range (n / 4) else Finset.Ico (n / 4 - 7) 7)
    fun i => some_ (rot (hOf n) i k) (box k (jOf n) (hOf n))

/-- What comes with an event goes with the next. -/
theorem travel_pass (n : ℕ) (k : Dev nD) : (travel n k : sProp 𝕄) = pass (n + 4) k := by
  unfold travel pass
  rw [hOf_add, jOf_add]
  congr 1
  split_ifs with h1 h2 h2
  · rw [show (n + 4) / 4 = n / 4 + 1 by omega]
  · rw [show (n + 4) / 4 - 7 = 0 by omega, show n / 4 + 1 = 7 by omega, Finset.range_eq_Ico]
  · omega
  · rw [show (n + 4) / 4 - 7 = n / 4 - 6 by omega]

/-- In the reduce-scatter the sender adds its own block, -/
theorem travel_rs (n : ℕ) (hn : n < 28) (c : Dev nD) :
    (travel n (ck n c) : sProp 𝕄) = iprop(some_ c (evBox n c) ∗ pass n (ck n c)) := by
  unfold travel pass
  rw [if_pos hn, if_pos hn, Finset.range_add_one, BI.bigSep_insert Finset.notMem_range_self, rot_ck]; rfl
/-- in the all-gather it takes out the receiver's. -/
theorem pass_ag (n : ℕ) (hn : 28 ≤ n) (hn' : n < 56) (c : Dev nD) :
    (pass n (ck n c) : sProp 𝕄) = iprop(some_ (rot (hOf n) 1 c) (evBox n c) ∗ travel n (ck n c)) := by
  have e : rot (hOf n) (n / 4 - 7) (ck n c) = rot (hOf n) 1 c := by
    unfold ck; rw [rot_rot]; exact rot_congr _ (by omega) _
  unfold travel pass
  rw [if_neg (by omega), if_neg (by omega), bigSep_Ico_succ_bot (by omega : n / 4 - 7 < 7), e, show n / 4 - 7 + 1 = n / 4 - 6 by omega]

theorem ck_next (n : ℕ) (c : Dev nD) : ck (n + 4) (rot (hOf n) 1 c) = ck n c := by
  rw [← ck_step, rot_rot]; exact congrArg (ck n) ((rot_congr _ (b := 0) (by omega) c).trans (rot_zero _ c))
theorem rot_prev (h : Fin 2) (c : Dev nD) : rot h 7 (rot h 1 c) = c := by
  rw [rot_rot]; exact (rot_congr _ (b := 0) (by omega) c).trans (rot_zero _ c)

theorem osem_send {n : ℕ} (hn : n < 56) : osem (kSend (ev n)) = .dma (sendSem n) := by
  show SemLoc.dma (sendSem (ev n).val) = _; rw [ev_val hn]
theorem osem_recv {n : ℕ} (hn : n < 56) : osem (kRecv (ev n)) = .dma (recvSem n) := by
  show SemLoc.dma (recvSem (ev n).val) = _; rw [ev_val hn]

variable (m : (ℓ : Loc nD τ sig) → Buf (Elt F) ℓ) (K : Dev nD × CKey → ℕ) (c : Dev nD)

theorem pay_send {n : ℕ} (hn : n < 56) : pay m c (dOwn (kSend (ev n))) = sendPay m c n := by
  show sendPay m c (ev n).val = _; rw [ev_val hn]
theorem pay_recv {n : ℕ} (hn : n < 56) : pay m c (dOwn (kRecv (ev n))) = recvPay m c n := by
  show recvPay m c (ev n).val = _; rw [ev_val hn]

/-- A finished block is the same wherever it has got to. -/
theorem val_next (n : ℕ) (hn : 28 ≤ n) : val m (n + 4) (rot (hOf n) 1 c) = val m n c := by
  unfold val
  rw [ck_next, hOf_add, jOf_add, show min ((n + 4) / 4) 7 = min (n / 4) 7 by omega]

/-- The right to send event `n`. -/
def toks (n : ℕ) : sProp 𝕄 :=
  iprop(dutyTok ER (ownCell c (kSend (ev n))) 0 (dOwn (kSend (ev n))) ∗ dutyTok ER (toCell n c) 0 (dOwn (kRecv (ev n))))
/-- The neighbour's slot that event `n` is sent to. -/
def peerSlot (n : ℕ) : sProp 𝕄 := if n < 28 then some_ (rot (hOf n) 1 c) (evSlot n) else iprop(emp)
/-- The credit for the wait on the send of event `n`. -/
abbrev sent (n : ℕ) : sProp 𝕄 := cred (tallyAt (ownCell c (kSend (ev n))) () NS)
/-- What sending event `n` takes. -/
def sendPre (n : ℕ) : sProp 𝕄 :=
  iprop(ctx m K ∗ holds c (evBox n c) (val m n c) ∗ peerSlot c n ∗ pass n (ck n c) ∗ ow c (Owed n c) ∗ toks c n)

/-- A send of the reduce-scatter. -/
theorem tr_send_rs (n : ℕ) (hn : n < 28) (o : Fin 2 → ℕ) (ho : ∀ a, o a + S512x512.size a ≤ S8192x1024.size a)
    (e : o = bOff (ck n c) (jOf n) (hOf n)) (p : Dev nD) (ep : p = rot (hOf n) 1 c) (sS sR : SemLoc sig)
    (eS : sS = osem (kSend (ev n))) (eR : sR = osem (kRecv (ev n)))
    {hsc : (evSlot n).view.ref.isScScratch = false} {hsrc : (boxM o ho).view.WordExact} {hdst : (evSlot n).view.WordExact}
    {hsem : DmaTarget.Typed .vmem sR (.remote (Dev.tc p) (evSlot n) sS hsc)} :
    Tr c (sendPre m K c n) (Prog.lift (.enqueueDma (boxM o ho) (.remote (Dev.tc p) (evSlot n) sS hsc) sR hsrc hdst hsem))
      iprop(sent c n ∗ ow c (Owed (n + 1) c)) := fun k Q => by
  subst e ep eS eR
  have hn' : n < 56 := by omega
  have hrecv (fd : Buf (Elt F) ((evSlot n).view.loc (rot (hOf n) 1 c : Thread nD τ))) :
      (iprop((((evSlot n).view.loc (rot (hOf n) 1 c : Thread nD τ) ↦[(evSlot n).view.set]{fullShare}
          (evSlot n).view.write (Elt F) fd ((evBox n c).view.read (Elt F) ((evBox n c).view.rep (val m n c))) Finset.univ) ∗ pass n (ck n c))
        ∗ ((evBox n c).view.loc (c : Thread nD τ) ↦[(evBox n c).view.set]{fullShare} (evBox n c).view.rep (val m n c))) : sProp 𝕄)
      ⊢ pay m (rot (hOf n) 1 c) (dOwn (kRecv (ev n))) := by
    rw [pay_recv m _ hn']
    unfold recvPay
    rw [if_pos hn, ck_next, travel_rs n hn, View.read_rep, rot_prev]
    iintro ⟨⟨Hd, Hp⟩, Hs⟩
    isplitl [Hd]; · iapply (holds_of_write (rot (hOf n) 1 c) (evSlot n) fd (val m n c)) $$ Hd
    isplitl [Hs]; · unfold some_; iexists _; iexact Hs
    iexact Hp
  have hsend : (emp : sProp 𝕄) ⊢ pay m c (dOwn (kSend (ev n))) := by
    rw [pay_send m c hn']; unfold sendPay; rw [if_pos hn]
  have hN : (evSlot n).view.amount (osem (kRecv (ev n))) = NS := slot_credit (hOf n) (sOf n) (jOf n)
  unfold sendPre peerSlot toks ow
  rw [if_pos hn]
  simp only [Prog.lift, Prog.bind_op, Prog.bind_ret]
  iintro ⟨#HC, Hs, Hd, Hp, ⟨%W, HO⟩, Ht1, Ht2⟩ Hk
  ihave #⟨HI1, HR1⟩ := (ctx_own m K c (kSend (ev n))) $$ HC
  ihave #⟨HI2, HR2⟩ := (ctx_own m K (rot (hOf n) 1 c) (kRecv (ev n))) $$ HC
  unfold holds some_
  icases Hd with ⟨%fd, Hd⟩
  iapply (Rounds.wp_send_landing_pointsTo_with 𝒱₀ ER (Rd m) (c : Thread nD τ) none (c' := (rot (hOf n) 1 c : Thread nD τ))
      (F := pass n (ck n c)) (κ₁ := K (c, .inr (kSend (ev n)))) (κ₂ := K (rot (hOf n) 1 c, .inr (kRecv (ev n))))
      (r₁ := 0) (r₂ := 0) (d₁ := dOwn (kSend (ev n))) (d₂ := dOwn (kRecv (ev n)))
      (mem_duties m c (dOwn (kSend (ev n)))) (mem_duties m (rot (hOf n) 1 c) (dOwn (kRecv (ev n)))) () () NS hN
      (units_ev (.inl (ev n))) (units_ev (.inr (ev n))) (Owed (n + 1) c) (Owed_step hn' c) hsend (hrecv fd)) $$ [Hs Hd Hp HO Ht1 Ht2]
  · isplitr; · iexact HI1
    isplitr; · iexact HI2
    isplitl [Hs]; · iexact Hs
    isplitl [Hd Hp]
    · isplitl [Hd]; · iexact Hd
      iexact Hp
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists _; iexact HO

/-- A send of the all-gather. -/
theorem tr_send_ag (n : ℕ) (hn : 28 ≤ n) (hn' : n < 56) (o : Fin 2 → ℕ) (ho : ∀ a, o a + S512x512.size a ≤ S8192x1024.size a)
    (e : o = bOff (ck n c) (jOf n) (hOf n)) (p : Dev nD) (ep : p = rot (hOf n) 1 c) (sS sR : SemLoc sig)
    (eS : sS = osem (kSend (ev n))) (eR : sR = osem (kRecv (ev n)))
    {hsc : (boxM o ho).view.ref.isScScratch = false} {hsrc hdst : (boxM o ho).view.WordExact}
    {hsem : DmaTarget.Typed .vmem sR (.remote (Dev.tc p) (boxM o ho) sS hsc)} :
    Tr c (sendPre m K c n) (Prog.lift (.enqueueDma (boxM o ho) (.remote (Dev.tc p) (boxM o ho) sS hsc) sR hsrc hdst hsem))
      iprop(sent c n ∗ ow c (Owed (n + 1) c)) := fun k Q => by
  subst e ep eS eR
  have hrecv (fd : Buf (Elt F) ((evBox n c).view.loc (rot (hOf n) 1 c : Thread nD τ))) :
      (iprop(((evBox n c).view.loc (rot (hOf n) 1 c : Thread nD τ) ↦[(evBox n c).view.set]{fullShare}
          (evBox n c).view.write (Elt F) fd ((evBox n c).view.read (Elt F) ((evBox n c).view.rep (val m n c))) Finset.univ) ∗ travel n (ck n c)) : sProp 𝕄)
      ⊢ pay m (rot (hOf n) 1 c) (dOwn (kRecv (ev n))) := by
    have e1 : (holds (rot (hOf n) 1 c) (evBox (n + 4) (rot (hOf n) 1 c)) (val m (n + 4) (rot (hOf n) 1 c)) : sProp 𝕄)
        = holds (rot (hOf n) 1 c) (evBox n c) (val m n c) := by
      rw [val_next m c n hn]; unfold evBox; rw [ck_next, hOf_add, jOf_add]
    rw [pay_recv m _ hn']
    unfold recvPay
    rw [if_neg (by omega), e1, ck_next, View.read_rep]
    iintro ⟨Hd, Hp⟩
    isplitl [Hd]; · iapply (holds_of_write (rot (hOf n) 1 c) (evBox n c) fd (val m n c)) $$ Hd
    iexact Hp
  have hsend : ((evBox n c).view.loc (c : Thread nD τ) ↦[(evBox n c).view.set]{fullShare} (evBox n c).view.rep (val m n c) : sProp 𝕄)
      ⊢ pay m c (dOwn (kSend (ev n))) := by
    rw [pay_send m c hn']; unfold sendPay; rw [if_neg (by omega)]; exact Entails.of_eq rfl
  have hN : (evBox n c).view.amount (osem (kRecv (ev n))) = NS := box_credit _ _
  unfold sendPre peerSlot toks ow
  rw [if_neg (by omega), pass_ag n hn hn']
  simp only [Prog.lift, Prog.bind_op, Prog.bind_ret]
  iintro ⟨#HC, Hs, -, ⟨Hd, Hp⟩, ⟨%W, HO⟩, Ht1, Ht2⟩ Hk
  ihave #⟨HI1, HR1⟩ := (ctx_own m K c (kSend (ev n))) $$ HC
  ihave #⟨HI2, HR2⟩ := (ctx_own m K (rot (hOf n) 1 c) (kRecv (ev n))) $$ HC
  unfold holds some_
  icases Hd with ⟨%fd, Hd⟩
  iapply (Rounds.wp_send_pointsTo_with 𝒱₀ ER (Rd m) (c : Thread nD τ) none (c' := (rot (hOf n) 1 c : Thread nD τ))
      (F := travel n (ck n c)) (κ₁ := K (c, .inr (kSend (ev n)))) (κ₂ := K (rot (hOf n) 1 c, .inr (kRecv (ev n))))
      (r₁ := 0) (r₂ := 0) (d₁ := dOwn (kSend (ev n))) (d₂ := dOwn (kRecv (ev n)))
      (mem_duties m c (dOwn (kSend (ev n)))) (mem_duties m (rot (hOf n) 1 c) (dOwn (kRecv (ev n)))) () () NS hN
      (units_ev (.inl (ev n))) (units_ev (.inr (ev n))) (Owed (n + 1) c) (Owed_step hn' c) hsend (hrecv fd)) $$ [Hs Hd Hp HO Ht1 Ht2]
  · isplitr; · iexact HI1
    isplitr; · iexact HI2
    isplitl [Hs]; · iexact Hs
    isplitl [Hd Hp]
    · isplitl [Hd]; · iexact Hd
      iexact Hp
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists _; iexact HO

/-- The send of event `n`. -/
theorem tr_rsSend (n : ℕ) (hn : n < 28) : Tr c (sendPre m K c n) (rsSend c n) iprop(sent c n ∗ ow c (Owed (n + 1) c)) :=
  tr_send_rs m K c n hn _ _ (rsOff_ev n hn c) _ (peer_eq _ _) _ _ (osem_send (by omega)).symm (osem_recv (by omega)).symm
theorem tr_sendEv (n : ℕ) (hn : n < 56) : Tr c (sendPre m K c n) (sendEv c n) iprop(sent c n ∗ ow c (Owed (n + 1) c)) := by
  unfold sendEv
  split
  · exact tr_rsSend m K c n (by assumption)
  · exact tr_send_ag m K c n (by omega) hn _ _ (agOff_ev n (by omega) hn c) _ (peer_eq _ _) _ _ (osem_send hn).symm (osem_recv hn).symm

end Cert.AllReduce

end
-- ==== Proof.Hops.lean ====
/- Meeting the neighbours; receiving an event and sending the next; the closing waits. -/
module

public import proofs.«01_k».proof.Proof.Casts
public import proofs.«01_k».proof.Proof.Sends

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

/-! ## The barrier -/

/-- The device's own arrival slots of direction `h`. -/
def mySlots (h : Fin 2) : sProp 𝕄 := bigSep (evs h) fun n => some_ c (evSlot n)

theorem mySlots_bar0 : (mySlots c 0 : sProp 𝕄) = barPay (rot 1 1 c) 0 := by
  unfold mySlots barPay
  rw [show rot 0 1 (rot 1 1 c) = c by refine Fin.ext ?_; rw [rot_val, rot_val]; have : c.val < 8 := c.isLt; simp only [if_true, if_neg (by decide : ¬ (1 : Fin 2) = 0)]; omega]
theorem mySlots_bar1 : (mySlots c 1 : sProp 𝕄) = barPay (rot 0 1 c) 1 := by
  unfold mySlots barPay
  rw [show rot 1 1 (rot 0 1 c) = c by refine Fin.ext ?_; rw [rot_val, rot_val]; have : c.val < 8 := c.isLt; simp only [if_true, if_neg (by decide : ¬ (1 : Fin 2) = 0)]; omega]

theorem tr_barr :
    Tr c iprop(ctx m K ∗ ow c (O₀ c) ∗ dutyTok ER (barCell (rot 1 1 c)) 0 (dBar 0) ∗ dutyTok ER (barCell (rot 0 1 c)) 0 (dBar 1)
        ∗ mySlots c 0 ∗ mySlots c 1 ∗ cred (tallyAt (barCell c) () 2) ∗ atPos ER (barCell c) 0 ∅ 0)
      (barr c) iprop(semVal (barCell c) 0 ∗ ow c (Owed 0 c) ∗ barPay c 0 ∗ barPay c 1) := fun k Q => by
  unfold barr ow
  simp only [semSignalWord, semWaitWord, Prog.lift, Prog.bind_op, Prog.bind_ret, Prog.bind_assoc]
  rw [dev1_eq, dev2_eq, mySlots_bar0, mySlots_bar1]
  iintro ⟨#HC, ⟨%W, HO⟩, Ht1, Ht0, Hs0, Hs1, Hcr, Hat⟩ Hk
  ihave #⟨HI1, HR1⟩ := (ctx_bar m K (rot 1 1 c)) $$ HC
  ihave #⟨HI0, HR0⟩ := (ctx_bar m K (rot 0 1 c)) $$ HC
  ihave #⟨HI, HR⟩ := (ctx_bar m K c) $$ HC
  ihave #HL := (ctx_lev m K) $$ HC
  iapply (Rounds.wp_signal 𝒱₀ ER (Rd m) (c : Thread nD τ) none (dst := (rot 1 1 c : Thread nD τ)) (κ := K (rot 1 1 c, .inl ()))
      (d := dBar 0) (mem_duties m (rot 1 1 c) (dBar 0)) ((show units (dBar 0) = 1 from rfl).trans (by decide)) () (O₁ c) rfl)
    $$ [HO Ht1 Hs0]
  · isplitr; · iexact HI1
    isplitl [HO]; · iexact HO
    isplitl [Ht1]; · iexact Ht1
    isplitl [Hs0]; · iapply (Entails.of_eq (show barPay (rot 1 1 c) 0 = (Rd m).payload (barCell (rot 1 1 c)) 0 (dBar 0) from rfl)) $$ Hs0
    iexact HR1
  iintro HO
  unfold O₁
  iapply (Rounds.wp_signal 𝒱₀ ER (Rd m) (c : Thread nD τ) none (dst := (rot 0 1 c : Thread nD τ)) (κ := K (rot 0 1 c, .inl ()))
      (d := dBar 1) (mem_duties m (rot 0 1 c) (dBar 1)) ((show units (dBar 1) = 1 from rfl).trans (by decide)) () (Owed 0 c) rfl)
    $$ [HO Ht0 Hs1]
  · isplitr; · iexact HI0
    isplitl [HO]; · iexact HO
    isplitl [Ht0]; · iexact Ht0
    isplitl [Hs1]; · iapply (Entails.of_eq (show barPay (rot 0 1 c) 1 = (Rd m).payload (barCell (rot 0 1 c)) 0 (dBar 1) from rfl)) $$ Hs1
    iexact HR0
  iintro HO
  iapply (Rounds.wp_wait_rest_token 𝒱₀ ER (Rd m) (c : Thread nD τ) none (κ := K (c, .inl ()))
      (wpE_semWait_eq 𝒱₀ (c : Thread nD τ) none Set.univ) (Set.mem_univ _) () (O := Owed 0 c) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait_owed c (.reg barS) 0 (by decide)); iexact HL
    iexact Hat
  iintro ⟨HO, Hat, -, Hpay⟩
  ihave Hpay := (Entails.of_eq (rest_bar m c)) $$ Hpay
  imod (Rounds.cell_close ER (Rd m) (Set.mem_univ (K (c, .inl ()))) (fun h => h) (R := 0 + 1) (duties_later m (barCell c))) $$ [Hat] with Hz
  · isplitr; · iexact HI
    iexact Hat
  iapply Hk
  isplitl [Hz]; · iexact Hz
  isplitl [HO]; · iexists _; iexact HO
  iexact Hpay

/-! ## Receipts -/

/-- What the wait for event `n` takes, -/
def recvR (n : ℕ) : sProp 𝕄 :=
  iprop(cred (tallyAt (ownCell c (kRecv (ev n))) () NS) ∗ atPos ER (ownCell c (kRecv (ev n))) 0 ∅ 0)
/-- and what is left of its semaphore. -/
abbrev got (n : ℕ) : sProp 𝕄 := semVal (ownCell c (kRecv (ev n))) 0
/-- The block that the partial sum of event `n` is added to. -/
abbrev accB (n : ℕ) : sProp 𝕄 := cast1 m c (ck (n + 4) c) (jOf n) (hOf n)

theorem lv_recv_ev {n : ℕ} (hn : n < 56) : lvS (osem (kRecv (ev n))) < 2 + (n + 4) := by
  rw [lv_recv, ev_val hn]; omega

theorem tr_rsWait (n : ℕ) (hn : n < 28) :
    Tr c iprop(ctx m K ∗ recvR c n ∗ ow c (Owed (n + 4) c)) (rsWait c n) iprop(got c n ∗ recvPay m c n ∗ ow c (Owed (n + 4) c)) := by
  have h := wait_own m K c (kRecv (ev n)) NS (n + 4) (units_ev _) (lv_recv_ev (by omega))
    (w := .waitDma2 (recvSem n) (boxM (rsOff (hOf n) c (sOf n) (jOf n)) (rsOff_inb _ c _ _)) (evSlot n) (rsOff_words _ c _ _) (slotM_words _ _ _))
    (fun X => (wpE_waitDma2_eq 𝒱₀ (c : Thread nD τ) none Set.univ X).trans (by rw [osem_recv (by omega : n < 56), slot_credit]))
  rw [pay_recv m c (by omega : n < 56)] at h
  refine h.conseq ?_ (Entails.of_eq rfl)
  unfold recvR
  iintro ⟨HC, ⟨H1, H2⟩, H3⟩
  isplitl [HC]; · iexact HC
  isplitl [H1]; · iexact H1
  isplitl [H2]; · iexact H2
  iexact H3

theorem tr_agWait (n : ℕ) (hn' : n < 56) :
    Tr c iprop(ctx m K ∗ recvR c n ∗ ow c (Owed (n + 4) c)) (agWait c n) iprop(got c n ∗ recvPay m c n ∗ ow c (Owed (n + 4) c)) := by
  have h := wait_own m K c (kRecv (ev n)) NS (n + 4) (units_ev _) (lv_recv_ev hn')
    (w := .waitDma2 (recvSem n) (boxM (agOff (hOf n) c (sOf n) (jOf n)) (agOff_inb _ c _ _)) (boxM (agOff (hOf n) c (sOf n) (jOf n)) (agOff_inb _ c _ _)) (agOff_words _ c _ _) (agOff_words _ c _ _))
    (fun X => (wpE_waitDma2_eq 𝒱₀ (c : Thread nD τ) none Set.univ X).trans (by rw [osem_recv hn', box_credit]))
  rw [pay_recv m c hn'] at h
  refine h.conseq ?_ (Entails.of_eq rfl)
  unfold recvR
  iintro ⟨HC, ⟨H1, H2⟩, H3⟩
  isplitl [HC]; · iexact HC
  isplitl [H1]; · iexact H1
  isplitl [H2]; · iexact H2
  iexact H3

/-- One more device's block. -/
theorem val_step (n : ℕ) (hn : n < 28) :
    val m (n + 4) c = k0_pay5 (XV m c (ck (n + 4) c) (jOf n) (hOf n)) (as1 (val m n (rot (hOf n) 7 c))) := by
  have h := rot_ck (n + 4) c
  rw [hOf_add, show (n + 4) / 4 = n / 4 + 1 by omega] at h
  unfold val
  rw [ck_step, hOf_add, jOf_add, show min ((n + 4) / 4) 7 = n / 4 + 1 by omega, show min (n / 4) 7 = n / 4 by omega]
  have hS : S m (hOf n) (n / 4 + 1) (ck (n + 4) c) (jOf n)
      = k0_pay5 (XV m (rot (hOf n) (n / 4 + 1) (ck (n + 4) c)) (ck (n + 4) c) (jOf n) (hOf n)) (as1 (S m (hOf n) (n / 4) (ck (n + 4) c) (jOf n))) := rfl
  rw [hS, h]

theorem tr_acc (n : ℕ) (hn : n < 28) (o : Fin 2 → ℕ) (ho : ∀ a, o a + S512x512.size a ≤ S8192x1024.size a)
    (e : o = bOff (ck (n + 4) c) (jOf n) (hOf n))
    {h1 h1' : outM.view.LoadsAt (boxR o ho).toLoadRect} {h2 : (commM (hOf n)).view.LoadsAt (slotR (sOf n) (jOf n)).toLoadRect}
    {hx : (outM.access (boxR o ho)).Stores Finset.univ} {hm : (Finset.univ : Finset (boxR o ho).shape.Idx) = Finset.univ ∨ ∀ a, (boxR o ho).stride a = 1} :
    Tr c iprop(accB m c n ∗ holds c (evSlot n) (val m n (rot (hOf n) 7 c)))
      (Prog.lift (.load outM (boxR o ho).toLoadRect h1) >>= fun v =>
       Prog.lift (.load (commM (hOf n)) (slotR (sOf n) (jOf n)).toLoadRect h2) >>= fun w =>
       Prog.lift (.load outM (boxR o ho).toLoadRect h1') >>= fun _ =>
       Prog.lift (.store outM (boxR o ho) (k0_pay5 v w) Finset.univ hx hm))
      iprop(holds c (evBox (n + 4) c) (val m (n + 4) c) ∗ some_ c (evSlot n)) := fun k Q => by
  subst e
  have e1 : (holds c (evBox (n + 4) c) (val m (n + 4) c) : sProp 𝕄) = holds c (box (ck (n + 4) c) (jOf n) (hOf n)) (val m (n + 4) c) := by
    unfold evBox; rw [hOf_add, jOf_add]
  have hpost : ((box (ck (n + 4) c) (jOf n) (hOf n)).view.loc (c : Thread nD τ) ↦[(box (ck (n + 4) c) (jOf n) (hOf n)).view.set]{fullShare}
      (box (ck (n + 4) c) (jOf n) (hOf n)).view.write (Elt F) ((box (ck (n + 4) c) (jOf n) (hOf n)).view.rep (XV m c (ck (n + 4) c) (jOf n) (hOf n)))
        (k0_pay5 ((box (ck (n + 4) c) (jOf n) (hOf n)).view.read (Elt F) ((box (ck (n + 4) c) (jOf n) (hOf n)).view.rep (XV m c (ck (n + 4) c) (jOf n) (hOf n))))
          (((commM (hOf n)).access (slotR (sOf n) (jOf n))).read (Elt F) ((evSlot n).view.rep (val m n (rot (hOf n) 7 c))))) Finset.univ : sProp 𝕄)
      ⊢ holds c (evBox (n + 4) c) (val m (n + 4) c) := by
    rw [e1, val_step m c n hn, View.read_rep, comm_read]
    exact holds_of_write c _ _ _
  simp only [Prog.lift, Prog.bind_op, Prog.bind_ret, Prog.bind_assoc]
  unfold accB cast1
  unfold holds at hpost ⊢
  iintro ⟨Ho, Hs⟩ Hk
  iapply (wp_load_rect 𝒱₀ (c : Thread nD τ) none Set.univ (m := outM) (r := boxR (bOff (ck (n + 4) c) (jOf n) (hOf n)) ho)
    (S := (box (ck (n + 4) c) (jOf n) (hOf n)).view.set) (Finset.Subset.refl _)) $$ Ho
  iintro Ho
  iapply (wp_load_rect 𝒱₀ (c : Thread nD τ) none Set.univ (m := commM (hOf n)) (r := slotR (sOf n) (jOf n)) (S := (evSlot n).view.set)
    (View.set_reshape _ _).symm.subset) $$ Hs
  iintro Hs
  iapply (wp_load_rect 𝒱₀ (c : Thread nD τ) none Set.univ (m := outM) (r := boxR (bOff (ck (n + 4) c) (jOf n) (hOf n)) ho)
    (S := (box (ck (n + 4) c) (jOf n) (hOf n)).view.set) (Finset.Subset.refl _)) $$ Ho
  iintro Ho
  iapply (wp_store 𝒱₀ (c : Thread nD τ) none Set.univ (m := outM) (r := boxR (bOff (ck (n + 4) c) (jOf n) (hOf n)) ho) (Mk := Finset.univ)
    (S := (box (ck (n + 4) c) (jOf n) (hOf n)).view.set) (Finset.Subset.refl _)) $$ Ho
  iintro Ho
  iapply Hk
  isplitl [Ho]; · iapply hpost $$ Ho
  unfold some_
  iexists _; iexact Hs

theorem tr_accEv (n : ℕ) (hn : n < 28) :
    Tr c iprop(accB m c n ∗ holds c (evSlot n) (val m n (rot (hOf n) 7 c))) (accEv c n)
      iprop(holds c (evBox (n + 4) c) (val m (n + 4) c) ∗ some_ c (evSlot n)) :=
  tr_acc m c n hn _ _ (accOff_ev n hn c)

/-- A reduce-scatter event received, and the next sent. -/
theorem tr_rsHop (n : ℕ) (hn : n < 28) :
    Tr c iprop(ctx m K ∗ recvR c n ∗ ow c (Owed (n + 4) c) ∗ accB m c n ∗ peerSlot c (n + 4) ∗ toks c (n + 4))
      (rsHop c n) iprop(got c n ∗ some_ c (evSlot n) ∗ sent c (n + 4) ∗ ow c (Owed (n + 5) c)) := by
  unfold rsHop
  refine Tr.seq (Tr.on (B' := iprop(ctx m K ∗ (got c n ∗ recvPay m c n ∗ ow c (Owed (n + 4) c)) ∗ accB m c n ∗ peerSlot c (n + 4) ∗ toks c (n + 4)))
    iprop(ctx m K ∗ accB m c n ∗ peerSlot c (n + 4) ∗ toks c (n + 4)) ?_ (tr_rsWait m K c n hn) ?_) ?_
  · iintro ⟨#HC, H1, H2, H3⟩
    isplitl [H1 H2]
    · isplitr; · iexact HC
      isplitl [H1] <;> iassumption
    isplitr; · iexact HC
    iexact H3
  · iintro ⟨H1, HC, H2⟩
    isplitl [HC]; · iexact HC
    isplitl [H1] <;> iassumption
  unfold recvPay
  rw [if_pos hn, travel_pass]
  refine Tr.seq (Tr.on (B' := iprop(ctx m K ∗ (holds c (evBox (n + 4) c) (val m (n + 4) c) ∗ some_ c (evSlot n)) ∗ pass (n + 4) (ck (n + 4) c)
        ∗ got c n ∗ ow c (Owed (n + 4) c) ∗ peerSlot c (n + 4) ∗ toks c (n + 4)))
    iprop(ctx m K ∗ pass (n + 4) (ck (n + 4) c) ∗ got c n ∗ ow c (Owed (n + 4) c) ∗ peerSlot c (n + 4) ∗ toks c (n + 4)) ?_ (tr_accEv m c n hn) ?_) ?_
  · iintro ⟨HC, ⟨H1, ⟨H2, H3⟩, H4⟩, H5, H6⟩
    isplitl [H2 H5]
    · isplitl [H5] <;> iassumption
    isplitl [HC]; · iexact HC
    isplitl [H3]; · iexact H3
    isplitl [H1]; · iexact H1
    isplitl [H4] <;> iassumption
  · iintro ⟨H1, HC, H2⟩
    isplitl [HC]; · iexact HC
    isplitl [H1] <;> iassumption
  refine Tr.on iprop(some_ c (evSlot n) ∗ got c n) ?_ (tr_sendEv m K c (n + 4) (by omega)) ?_
  · unfold sendPre
    iintro ⟨HC, ⟨H1, H2⟩, H3, H4, H5, H6, H7⟩
    isplitl [HC H1 H3 H5 H6 H7]
    · isplitl [HC]; · iexact HC
      isplitl [H1]; · iexact H1
      isplitl [H6]; · iexact H6
      isplitl [H3]; · iexact H3
      isplitl [H5] <;> iassumption
    isplitl [H2] <;> iassumption
  · iintro ⟨⟨H1, H2⟩, H3, H4⟩
    isplitl [H4]; · iexact H4
    isplitl [H3]; · iexact H3
    isplitl [H1] <;> iassumption

theorem Owed_beyond {n : ℕ} (hn : 56 ≤ n) : Owed n c = 0 := by
  unfold Owed; rw [Finset.Ico_eq_empty (by omega), Finset.sum_empty]

/-- What an all-gather event leaves: the credit of the next one's send or, at the end, the block. -/
def agLeft (n : ℕ) : sProp 𝕄 := if n < 56 then sent c n else holds c (evBox n c) (val m n c)
/-- The right to send the next, if there is one. -/
def toks? (n : ℕ) : sProp 𝕄 := if n < 56 then toks c n else iprop(emp)

/-- An all-gather event received, and passed on. -/
theorem tr_agHop (n : ℕ) (hn : 28 ≤ n) (hn' : n < 56) :
    Tr c iprop(ctx m K ∗ recvR c n ∗ ow c (Owed (n + 4) c) ∗ toks? c (n + 4))
      (agHop c n) iprop(got c n ∗ agLeft m c (n + 4) ∗ ow c (Owed (n + 5) c)) := by
  unfold agHop
  refine Tr.seq (Tr.on (B' := iprop(ctx m K ∗ (got c n ∗ recvPay m c n ∗ ow c (Owed (n + 4) c)) ∗ toks? c (n + 4)))
    iprop(ctx m K ∗ toks? c (n + 4)) ?_ (tr_agWait m K c n hn') ?_) ?_
  · iintro ⟨#HC, H1, H2, H3⟩
    isplitl [H1 H2]
    · isplitr; · iexact HC
      isplitl [H1] <;> iassumption
    isplitr; · iexact HC
    iexact H3
  · iintro ⟨H1, HC, H2⟩
    isplitl [HC]; · iexact HC
    isplitl [H1] <;> iassumption
  unfold recvPay agLeft toks?
  rw [if_neg (by omega : ¬ n < 28), travel_pass]
  by_cases h : n + 4 < 56
  · rw [if_pos h, if_pos h, if_pos h]
    refine Tr.on (got c n) ?_ (tr_sendEv m K c (n + 4) h) ?_
    · unfold sendPre peerSlot
      rw [if_neg (by omega : ¬ n + 4 < 28)]
      iintro ⟨HC, ⟨H1, ⟨H2, H3⟩, H4⟩, H5⟩
      isplitl [HC H2 H3 H4 H5]
      · isplitl [HC]; · iexact HC
        isplitl [H2]; · iexact H2
        isplitr; · iempintro
        isplitl [H3]; · iexact H3
        isplitl [H4] <;> iassumption
      iexact H1
    · iintro ⟨⟨H1, H2⟩, H3⟩
      isplitl [H3]; · iexact H3
      isplitl [H1] <;> iassumption
  · rw [if_neg h, if_neg h, if_neg h, Owed_beyond c (by omega : 56 ≤ n + 4), Owed_beyond c (by omega : 56 ≤ n + 5)]
    refine Tr.skip.conseq (Entails.of_eq rfl) ?_
    iintro ⟨HC, ⟨H1, ⟨H2, H3⟩, H4⟩, H5⟩
    isplitl [H1]; · iexact H1
    isplitl [H2] <;> iassumption

/-- The wait for the send of event `n` to have left, owing nothing any more. -/
theorem tr_endWait (n : ℕ) (hn : n < 56) :
    Tr c iprop(ctx m K ∗ sent c n ∗ atPos ER (ownCell c (kSend (ev n))) 0 ∅ 0 ∗ ow c (Owed 60 c)) (endWait c n)
      iprop(semVal (ownCell c (kSend (ev n))) 0 ∗ sendPay m c n ∗ ow c (Owed 60 c)) := by
  rw [← pay_send m c hn]
  unfold endWait
  split
  · exact wait_own m K c (kSend (ev n)) NS 60 (units_ev _) (by rw [lv_send]; omega)
      (fun X => (wpE_waitDma2_eq 𝒱₀ (c : Thread nD τ) none Set.univ X).trans (by rw [osem_send hn, box_credit]))
  · exact wait_own m K c (kSend (ev n)) NS 60 (units_ev _) (by rw [lv_send]; omega)
      (fun X => (wpE_waitDma2_eq 𝒱₀ (c : Thread nD τ) none Set.univ X).trans (by rw [osem_send hn, box_credit]))

end Cert.AllReduce

end
-- ==== Proof.Phases.lean ====
/- The reduce-scatter and the all-gather, event by event. -/
module

public import proofs.«01_k».proof.Proof.Hops

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

/-! ## What a device holds between events -/

/-- About to receive event `n`, having sent those below `n + 4`. -/
def core (n : ℕ) : sProp 𝕄 :=
  iprop(ctx m K ∗ ow c (Owed (n + 4) c) ∗ (bigSep (Finset.Ico n 56) fun i => recvR c i) ∗ (bigSep (Finset.Ico (n + 4) 60) fun i => toks? c i)
    ∗ (bigSep (Finset.range (n + 4)) fun i => agLeft m c i) ∗ (bigSep (Finset.range n) fun i => got c i))

/-- The load whose cast makes the block that event `n` is added to. -/
def ldIdx (n : ℕ) : ℕ := if n % 2 = 0 then ([0, 2, 4, 6, 5, 3, 1] : List ℕ).getD (n / 4) 0 else ([1, 3, 5, 6, 4, 2, 0] : List ℕ).getD (n / 4) 0
/-- The events still to come whose block is cast, after `i` loads. -/
def avail (n i : ℕ) : Finset ℕ := (Finset.range 28).filter fun x => n ≤ x ∧ ldIdx x < i
/-- The events whose block the cast of load `i + 1` makes. -/
def convSet (i : ℕ) : Finset ℕ := (Finset.range 28).filter fun x => ldIdx x = i

/-- In the reduce-scatter, also: the neighbours' slots still to be written, the own slots read, the blocks cast. -/
def rsSt (n i : ℕ) : sProp 𝕄 :=
  iprop(core m K c n ∗ (bigSep (Finset.Ico (n + 4) 32) fun i => peerSlot c i) ∗ (bigSep (Finset.range n) fun i => some_ c (evSlot i))
    ∗ bigSep (avail n i) fun x => accB m c x)

theorem avail_hop {n i : ℕ} (hn : n < 28) (h : ldIdx n < i) : avail n i = insert n (avail (n + 1) i) := by
  ext x
  simp only [avail, Finset.mem_filter, Finset.mem_insert, Finset.mem_range]
  constructor
  · rintro ⟨h1, h2, h3⟩
    rcases Nat.eq_or_lt_of_le h2 with e | e
    · exact Or.inl e.symm
    · exact Or.inr ⟨h1, e, h3⟩
  · rintro (rfl | ⟨h1, h2, h3⟩)
    · exact ⟨hn, le_rfl, h⟩
    · exact ⟨h1, by omega, h3⟩
theorem notMem_avail (n i : ℕ) : n ∉ avail (n + 1) i := by
  intro h; have := (Finset.mem_filter.mp h).2.1; omega
theorem avail_conv {n i : ℕ} (h : ∀ x ∈ convSet i, n ≤ x) : avail n (i + 1) = convSet i ∪ avail n i := by
  ext x
  simp only [avail, convSet, Finset.mem_filter, Finset.mem_union, Finset.mem_range] at h ⊢
  constructor
  · rintro ⟨h1, h2, h3⟩
    rcases Nat.lt_or_ge (ldIdx x) i with e | e
    · exact Or.inr ⟨h1, h2, e⟩
    · exact Or.inl ⟨h1, by omega⟩
  · rintro (⟨h1, h2⟩ | ⟨h1, h2, h3⟩)
    · exact ⟨h1, h x ⟨h1, h2⟩, by omega⟩
    · exact ⟨h1, h2, by omega⟩
theorem conv_disjoint (n i : ℕ) : Disjoint (convSet i) (avail n i) :=
  Finset.disjoint_left.mpr fun x h h' => by
    have h1 := (Finset.mem_filter.mp h).2
    have h2 := (Finset.mem_filter.mp h').2.2
    omega

/-- One event of the reduce-scatter. -/
theorem tr_rs (n i : ℕ) (hn : n < 28) (hi : ldIdx n < i) : Tr c (rsSt m K c n i) (rsHop c n) (rsSt m K c (n + 1) i) := by
  have e1 : (bigSep (avail n i) fun x => accB m c x : sProp 𝕄) = iprop(accB m c n ∗ bigSep (avail (n + 1) i) fun x => accB m c x) := by
    rw [avail_hop hn hi, BI.bigSep_insert (notMem_avail n i)]; rfl
  have t1 : (toks? c (n + 4) : sProp 𝕄) = toks c (n + 4) := if_pos (by omega)
  have l1 : (agLeft m c (n + 4) : sProp 𝕄) = sent c (n + 4) := if_pos (by omega)
  refine Tr.on iprop(ctx m K ∗ (bigSep (Finset.Ico (n + 1) 56) fun i => recvR c i) ∗ (bigSep (Finset.Ico (n + 4 + 1) 60) fun i => toks? c i)
    ∗ (bigSep (Finset.range (n + 4)) fun i => agLeft m c i) ∗ (bigSep (Finset.range n) fun i => got c i)
    ∗ (bigSep (Finset.Ico (n + 4 + 1) 32) fun i => peerSlot c i) ∗ (bigSep (Finset.range n) fun i => some_ c (evSlot i))
    ∗ bigSep (avail (n + 1) i) fun x => accB m c x) ?_ (tr_rsHop m K c n hn) ?_
  · unfold rsSt core
    rw [e1, bigSep_Ico_succ_bot (by omega : n < 56), bigSep_Ico_succ_bot (by omega : n + 4 < 60), bigSep_Ico_succ_bot (by omega : n + 4 < 32), t1]
    iintro ⟨⟨#HC, HO, ⟨Hr, Hrs⟩, ⟨Ht, Hts⟩, Hl, Hg⟩, ⟨Hp, Hps⟩, Hb, Ha, Has⟩
    isplitl [HO Hr Ht Hp Ha]
    · isplitr; · iexact HC
      isplitl [Hr]; · iexact Hr
      isplitl [HO]; · iexact HO
      isplitl [Ha]; · iexact Ha
      isplitl [Hp] <;> iassumption
    isplitr; · iexact HC
    isplitl [Hrs]; · iexact Hrs
    isplitl [Hts]; · iexact Hts
    isplitl [Hl]; · iexact Hl
    isplitl [Hg]; · iexact Hg
    isplitl [Hps]; · iexact Hps
    isplitl [Hb] <;> iassumption
  · unfold rsSt core
    rw [show n + 1 + 4 = n + 4 + 1 by omega, bigSep_range_succ (n + 4), bigSep_range_succ n, bigSep_range_succ n, l1]
    iintro ⟨⟨Hg, Hb, Hs, HO⟩, HC, Hrs, Hts, Hl, Hgs, Hps, Hbs, Has⟩
    isplitl [Hg Hs HO HC Hrs Hts Hl Hgs]
    · isplitl [HC]; · iexact HC
      isplitl [HO]; · iexact HO
      isplitl [Hrs]; · iexact Hrs
      isplitl [Hts]; · iexact Hts
      isplitl [Hl Hs]
      · isplitl [Hs] <;> iassumption
      isplitl [Hg] <;> iassumption
    isplitl [Hps]; · iexact Hps
    isplitl [Hb Hbs]
    · isplitl [Hb] <;> iassumption
    iexact Has

/-- One event of the all-gather. -/
theorem tr_ag (n : ℕ) (hn : 28 ≤ n) (hn' : n < 56) : Tr c (core m K c n) (agHop c n) (core m K c (n + 1)) := by
  refine Tr.on iprop(ctx m K ∗ (bigSep (Finset.Ico (n + 1) 56) fun i => recvR c i) ∗ (bigSep (Finset.Ico (n + 4 + 1) 60) fun i => toks? c i)
    ∗ (bigSep (Finset.range (n + 4)) fun i => agLeft m c i) ∗ (bigSep (Finset.range n) fun i => got c i)) ?_ (tr_agHop m K c n hn hn') ?_
  · unfold core
    rw [bigSep_Ico_succ_bot (by omega : n < 56), bigSep_Ico_succ_bot (by omega : n + 4 < 60)]
    iintro ⟨#HC, HO, ⟨Hr, Hrs⟩, ⟨Ht, Hts⟩, Hl, Hg⟩
    isplitl [HO Hr Ht]
    · isplitr; · iexact HC
      isplitl [Hr]; · iexact Hr
      isplitl [HO] <;> iassumption
    isplitr; · iexact HC
    isplitl [Hrs]; · iexact Hrs
    isplitl [Hts]; · iexact Hts
    isplitl [Hl] <;> iassumption
  · unfold core
    rw [show n + 1 + 4 = n + 4 + 1 by omega, bigSep_range_succ (n + 4), bigSep_range_succ n]
    iintro ⟨⟨Hg, Hs, HO⟩, HC, Hrs, Hts, Hl, Hgs⟩
    isplitl [HC]; · iexact HC
    isplitl [HO]; · iexact HO
    isplitl [Hrs]; · iexact Hrs
    isplitl [Hts]; · iexact Hts
    isplitl [Hl Hs]
    · isplitl [Hs] <;> iassumption
    isplitl [Hg] <;> iassumption

/-- A run of steps. -/
theorem tr_run (St : ℕ → sProp 𝕄) (p : ℕ → Stmt F) (n : ℕ) :
    ∀ k, (∀ x, n ≤ x → x < n + k → Tr c (St x) (p x) (St (x + 1))) → Tr c (St n) (seqs ((List.range k).map fun x => p (n + x))) (St (n + k))
  | 0, _ => Tr.nil
  | k + 1, h => by
    rw [List.range_succ, List.map_append]
    exact Tr.append (tr_run St p n k fun x h1 h2 => h x h1 (by omega)) (Tr.cons (h (n + k) (by omega) (by omega)) Tr.nil)

/-- The all-gather. -/
theorem tr_allGather : Tr c (core m K c 28) (seqs (allGather c)) (core m K c 56) :=
  tr_run c (core m K c) (agHop c) 28 28 fun x h1 h2 => tr_ag m K c x h1 (by omega)

/-- The reduce-scatter's last events. -/
theorem tr_rsTail : Tr c (rsSt m K c 12 7) (seqs ((List.range 16).map fun x => rsHop c (12 + x))) (rsSt m K c 28 7) :=
  tr_run c (fun n => rsSt m K c n 7) (rsHop c) 12 16 fun x h1 h2 => tr_rs m K c x 7 (by omega) (by
    have : ∀ x < 28, ldIdx x < 7 := by decide
    exact this x (by omega))

/-! ## The closing waits -/

/-- What the wait on the send of event `n` takes, -/
abbrev endA (n : ℕ) : sProp 𝕄 := iprop(sent c n ∗ atPos ER (ownCell c (kSend (ev n))) 0 ∅ 0)
/-- and what it leaves. -/
abbrev endB (n : ℕ) : sProp 𝕄 := iprop(semVal (ownCell c (kSend (ev n))) 0 ∗ sendPay m c n)

theorem tr_ends : ∀ l : List ℕ, l.Nodup → (∀ n ∈ l, n < 56) →
    Tr c iprop(ctx m K ∗ ow c (Owed 60 c) ∗ bigSep l.toFinset fun n => endA c n) (seqs (l.map (endWait c)))
      iprop(ctx m K ∗ ow c (Owed 60 c) ∗ bigSep l.toFinset fun n => endB m c n)
  | [], _, _ => Tr.nil
  | n :: l, hd, hl => by
    have hn : n ∉ l.toFinset := fun h => (List.nodup_cons.mp hd).1 (List.mem_toFinset.mp h)
    have eA : (bigSep (n :: l).toFinset fun n => endA c n : sProp 𝕄) = iprop(endA c n ∗ bigSep l.toFinset fun n => endA c n) := by
      rw [List.toFinset_cons, BI.bigSep_insert hn]; rfl
    have eB : (bigSep (n :: l).toFinset fun n => endB m c n : sProp 𝕄) = iprop(endB m c n ∗ bigSep l.toFinset fun n => endB m c n) := by
      rw [List.toFinset_cons, BI.bigSep_insert hn]; rfl
    rw [eA, eB, List.map_cons]
    refine Tr.cons (Tr.on (B' := iprop((ctx m K ∗ ow c (Owed 60 c) ∗ bigSep l.toFinset fun n => endA c n) ∗ endB m c n))
      iprop(ctx m K ∗ bigSep l.toFinset fun n => endA c n) ?_ (tr_endWait m K c n (hl n (by simp))) ?_)
      (Tr.on (endB m c n) (Entails.of_eq rfl) (tr_ends l (List.nodup_cons.mp hd).2 fun x hx => hl x (by simp [hx])) ?_)
    · iintro ⟨#HC, HO, ⟨Hs, Ha⟩, Hr⟩
      isplitl [HO Hs Ha]
      · isplitr; · iexact HC
        isplitl [Hs]; · iexact Hs
        isplitl [Ha] <;> iassumption
      isplitr; · iexact HC
      iexact Hr
    · iintro ⟨⟨Hs, Ha, HO⟩, HC, Hr⟩
      isplitl [HO HC Hr]
      · isplitl [HC]; · iexact HC
        isplitl [HO] <;> iassumption
      isplitl [Hs] <;> iassumption
    · iintro ⟨⟨HC, HO, Hr⟩, Hs, Ha⟩
      isplitl [HC]; · iexact HC
      isplitl [HO]; · iexact HO
      isplitl [Hs Ha]
      · isplitl [Hs] <;> iassumption
      iexact Hr

theorem end_set : ((List.range 56).map endOf).toFinset = Finset.range 56 := by decide +kernel
theorem end_nodup : ((List.range 56).map endOf).Nodup := by decide +kernel

/-- The closing waits. -/
theorem tr_closing : Tr c iprop(ctx m K ∗ ow c (Owed 60 c) ∗ bigSep (Finset.range 56) fun n => endA c n) (seqs (closing c))
      iprop(ctx m K ∗ ow c (Owed 60 c) ∗ bigSep (Finset.range 56) fun n => endB m c n) := by
  have h := tr_ends m K c ((List.range 56).map endOf) end_nodup (fun n hn => by
    have : n ∈ ((List.range 56).map endOf).toFinset := List.mem_toFinset.mpr hn
    rw [end_set] at this
    exact Finset.mem_range.mp this)
  rw [end_set, List.map_map] at h
  exact h

end Cert.AllReduce

end
-- ==== Proof.Loads.lean ====
/- The loads and casts in between the events. -/
module

public import proofs.«01_k».proof.Proof.Phases

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

/-- Loads by number. -/
def lk (n : ℕ) : Fin 8 := ⟨n % 8, Nat.mod_lt _ (by decide)⟩
theorem lk_succ (i : Fin 7) : i.succ = lk (i.val + 1) := Fin.ext (show i.val + 1 = (i.val + 1) % 8 by omega)

abbrev ldAt (n : ℕ) : sProp 𝕄 := atPos ER (ownCell c (kLoad (lk n))) 0 ∅ 0
abbrev ldCred (n : ℕ) : sProp 𝕄 := cred (tallyAt (ownCell c (kLoad (lk n))) () NL)
/-- A load not yet started: the chunk, and the right to start. -/
abbrev ldTok (n : ℕ) : sProp 𝕄 := iprop(xPts m c (lk n) ∗ dutyTok ER (ownCell c (kLoad (lk n))) 0 (dOwn (kLoad (lk n))))
/-- A load done with. -/
abbrev ldDone (n : ℕ) : sProp 𝕄 := iprop(semVal (ownCell c (kLoad (lk n))) 0 ∗ xPts m c (lk n))
/-- The chunk of the result that load `n` is for. -/
abbrev ldRaw (n : ℕ) : sProp 𝕄 := rawChunk c (ldK (lk n) c)
abbrev ldSlot (n : ℕ) : sProp 𝕄 := some_ c (stageSl (bOf (lk n)))

/-- Loads `0 .. i` done, the next two started. -/
def ldSt (i : ℕ) : sProp 𝕄 :=
  iprop((bigSep (Finset.Ico (i + 1) 8) fun x => ldAt c x) ∗ (bigSep (Finset.Ico (i + 1) (min (i + 3) 8)) fun x => ldCred c x)
    ∗ (bigSep (Finset.Ico (i + 3) 8) fun x => ldTok m c x) ∗ (bigSep (Finset.range (i + 1)) fun x => ldDone m c x)
    ∗ (bigSep (Finset.Ico (i + 1) 8) fun x => ldRaw c x) ∗ (bigSep (Finset.Ico 6 (i + 1)) fun x => ldSlot c x))

/-- The event whose block is block `(j, h)` of the chunk of load `i + 1`. -/
def evOf (i : Fin 7) (j h : Fin 2) : ℕ :=
  4 * (if h = 0 then ([0, 6, 1, 5, 2, 4, 3] : List ℕ).getD i.val 0 else ([6, 0, 5, 1, 4, 2, 3] : List ℕ).getD i.val 0) + 2 * j.val + h.val

theorem evOf_facts : ∀ (i : Fin 7) (j h : Fin 2) (d : Dev nD),
    ck (evOf i j h + 4) d = ldK i.succ d ∧ jOf (evOf i j h) = j ∧ hOf (evOf i j h) = h := by decide +kernel
theorem evOf_set : ∀ i : Fin 7, (Finset.univ : Finset (Fin 2 × Fin 2)).image (fun p => evOf i p.1 p.2) = convSet i.val := by decide +kernel
theorem evOf_inj : ∀ (i : Fin 7) (p q : Fin 2 × Fin 2), evOf i p.1 p.2 = evOf i q.1 q.2 → p = q := by decide +kernel

/-- The blocks of a cast chunk are those of its events. -/
theorem cast_events (i : Fin 7) :
    (bigSep Finset.univ fun j : Fin 2 => bigSep Finset.univ fun h : Fin 2 => cast1 m c (ldK i.succ c) j h : sProp 𝕄)
      = bigSep (convSet i.val) fun x => accB m c x := by
  rw [← evOf_set i, BI.bigSep_image_of_injOn (fun p _ q _ e => evOf_inj i p q e),
    BI.bigSep_univ_prod (fun p : Fin 2 × Fin 2 => accB m c (evOf i p.1 p.2))]
  refine bigSep_congr fun j _ => bigSep_congr fun h _ => ?_
  obtain ⟨e1, e2, e3⟩ := evOf_facts i j h c
  show cast1 m c (ldK i.succ c) j h = cast1 m c (ck (evOf i j h + 4) c) (jOf (evOf i j h)) (hOf (evOf i j h))
  rw [e1, e2, e3]

/-- Wait for the next load, cast its chunk, and start the load after. -/
theorem tr_ldConv (n : ℕ) (i : Fin 7) :
    Tr c iprop(ctx m K ∗ ow c (Owed n c) ∗ ldSt m c i.val) (seqs (ldConv c i))
      iprop(ctx m K ∗ ow c (Owed n c) ∗ ldSt m c (i.val + 1) ∗ bigSep (convSet i.val) fun x => accB m c x) := by
  have hi : i.val < 7 := i.isLt
  have hw : Tr c iprop(ctx m K ∗ ldCred c (i.val + 1) ∗ ldAt c (i.val + 1) ∗ ow c (Owed n c)) (ldWait c i.succ)
      iprop(semVal (ownCell c (kLoad (lk (i.val + 1)))) 0 ∗ loadPay m c (lk (i.val + 1)) ∗ ow c (Owed n c)) := by
    have h := tr_ldWait m K c i.succ n
    rw [lk_succ] at h
    rw [lk_succ]
    exact h
  have hc : Tr c iprop(holds c (stageSl (bOf (lk (i.val + 1)))) (xChunk m c (ldK (lk (i.val + 1)) c)) ∗ ldRaw c (i.val + 1)) (conv c i)
      iprop(ldSlot c (i.val + 1) ∗ bigSep (convSet i.val) fun x => accB m c x) := by
    have h := tr_conv m c i
    rw [cast_events] at h
    rw [lk_succ] at h
    exact h
  -- what the start of the load after needs and leaves, if there is one
  have key (B : sProp 𝕄) (tail : List (Stmt F))
      (ht : Tr c iprop((ctx m K ∗ ow c (Owed n c) ∗ (bigSep (Finset.Ico (i.val + 2) 8) fun x => ldAt c x)
          ∗ (bigSep (Finset.Ico (i.val + 2) (min (i.val + 3) 8)) fun x => ldCred c x) ∗ (bigSep (Finset.Ico (i.val + 3) 8) fun x => ldTok m c x)
          ∗ (bigSep (Finset.range (i.val + 2)) fun x => ldDone m c x) ∗ (bigSep (Finset.Ico (i.val + 2) 8) fun x => ldRaw c x)
          ∗ (bigSep (Finset.Ico 6 (i.val + 1)) fun x => ldSlot c x) ∗ ldSlot c (i.val + 1)) ∗ bigSep (convSet i.val) fun x => accB m c x) (seqs tail) B) :
      Tr c iprop(ctx m K ∗ ow c (Owed n c) ∗ ldSt m c i.val) (seqs (ldWait c i.succ :: conv c i :: tail)) B := by
    refine Tr.cons (Tr.on (B' := iprop((ctx m K ∗ ow c (Owed n c) ∗ (bigSep (Finset.Ico (i.val + 2) 8) fun x => ldAt c x)
          ∗ (bigSep (Finset.Ico (i.val + 2) (min (i.val + 3) 8)) fun x => ldCred c x) ∗ (bigSep (Finset.Ico (i.val + 3) 8) fun x => ldTok m c x)
          ∗ (bigSep (Finset.range (i.val + 2)) fun x => ldDone m c x) ∗ (bigSep (Finset.Ico (i.val + 2) 8) fun x => ldRaw c x)
          ∗ (bigSep (Finset.Ico 6 (i.val + 1)) fun x => ldSlot c x)) ∗ holds c (stageSl (bOf (lk (i.val + 1)))) (xChunk m c (ldK (lk (i.val + 1)) c)) ∗ ldRaw c (i.val + 1)))
      iprop(ctx m K ∗ (bigSep (Finset.Ico (i.val + 2) 8) fun x => ldAt c x)
          ∗ (bigSep (Finset.Ico (i.val + 2) (min (i.val + 3) 8)) fun x => ldCred c x) ∗ (bigSep (Finset.Ico (i.val + 3) 8) fun x => ldTok m c x)
          ∗ (bigSep (Finset.range (i.val + 1)) fun x => ldDone m c x) ∗ (bigSep (Finset.Ico (i.val + 2) 8) fun x => ldRaw c x)
          ∗ (bigSep (Finset.Ico 6 (i.val + 1)) fun x => ldSlot c x) ∗ ldRaw c (i.val + 1)) ?_ hw ?_) ?_
    · unfold ldSt
      rw [bigSep_Ico_succ_bot (by omega : i.val + 1 < 8), bigSep_Ico_succ_bot (by omega : i.val + 1 < min (i.val + 3) 8),
        bigSep_Ico_succ_bot (by omega : i.val + 1 < 8)]
      iintro ⟨#HC, HO, ⟨Ha, Has⟩, ⟨Hc, Hcs⟩, Ht, Hd, ⟨Hr, Hrs⟩, Hs⟩
      isplitl [HO Ha Hc]
      · isplitr; · iexact HC
        isplitl [Hc]; · iexact Hc
        isplitl [Ha] <;> iassumption
      isplitr; · iexact HC
      isplitl [Has]; · iexact Has
      isplitl [Hcs]; · iexact Hcs
      isplitl [Ht]; · iexact Ht
      isplitl [Hd]; · iexact Hd
      isplitl [Hrs]; · iexact Hrs
      isplitl [Hs] <;> iassumption
    · rw [show i.val + 2 = i.val + 1 + 1 by omega, bigSep_range_succ (i.val + 1)]
      unfold loadPay
      iintro ⟨⟨Hz, ⟨Hst, Hx⟩, HO⟩, HC, Ha, Hcs, Ht, Hd, Hrs, Hs, Hr⟩
      isplitr [Hst Hr]
      · isplitl [HC]; · iexact HC
        isplitl [HO]; · iexact HO
        isplitl [Ha]; · iexact Ha
        isplitl [Hcs]; · iexact Hcs
        isplitl [Ht]; · iexact Ht
        isplitl [Hz Hx Hd]
        · isplitl [Hz Hx]
          · isplitl [Hz] <;> iassumption
          iexact Hd
        isplitl [Hrs] <;> iassumption
      isplitl [Hst] <;> iassumption
    refine Tr.cons (Tr.on (B' := iprop((ctx m K ∗ ow c (Owed n c) ∗ (bigSep (Finset.Ico (i.val + 2) 8) fun x => ldAt c x)
          ∗ (bigSep (Finset.Ico (i.val + 2) (min (i.val + 3) 8)) fun x => ldCred c x) ∗ (bigSep (Finset.Ico (i.val + 3) 8) fun x => ldTok m c x)
          ∗ (bigSep (Finset.range (i.val + 2)) fun x => ldDone m c x) ∗ (bigSep (Finset.Ico (i.val + 2) 8) fun x => ldRaw c x)
          ∗ (bigSep (Finset.Ico 6 (i.val + 1)) fun x => ldSlot c x) ∗ ldSlot c (i.val + 1)) ∗ bigSep (convSet i.val) fun x => accB m c x))
      iprop(ctx m K ∗ ow c (Owed n c) ∗ (bigSep (Finset.Ico (i.val + 2) 8) fun x => ldAt c x)
          ∗ (bigSep (Finset.Ico (i.val + 2) (min (i.val + 3) 8)) fun x => ldCred c x) ∗ (bigSep (Finset.Ico (i.val + 3) 8) fun x => ldTok m c x)
          ∗ (bigSep (Finset.range (i.val + 2)) fun x => ldDone m c x) ∗ (bigSep (Finset.Ico (i.val + 2) 8) fun x => ldRaw c x)
          ∗ (bigSep (Finset.Ico 6 (i.val + 1)) fun x => ldSlot c x)) ?_ hc ?_) ht
    · iintro ⟨HR, Hc⟩
      isplitl [Hc] <;> iassumption
    · iintro ⟨⟨Hs, Hc⟩, HC, HO, Ha, Hcs, Ht, Hd, Hrs, Hss⟩
      isplitr [Hc]
      · isplitl [HC]; · iexact HC
        isplitl [HO]; · iexact HO
        isplitl [Ha]; · iexact Ha
        isplitl [Hcs]; · iexact Hcs
        isplitl [Ht]; · iexact Ht
        isplitl [Hd]; · iexact Hd
        isplitl [Hrs]; · iexact Hrs
        isplitl [Hss] <;> iassumption
      iexact Hc
  unfold ldConv
  by_cases h : i.val + 3 < 8
  · rw [dif_pos h]
    refine key _ _ ?_
    have e3 : (⟨i.val + 3, h⟩ : Fin 8) = lk (i.val + 3) := Fin.ext (show i.val + 3 = (i.val + 3) % 8 by omega)
    have eb : bOf (lk (i.val + 1)) = bOf (lk (i.val + 3)) := Fin.ext (show (i.val + 1) % 8 % 2 = (i.val + 3) % 8 % 2 by omega)
    rw [e3]
    refine Tr.cons (Tr.on iprop(ctx m K ∗ ow c (Owed n c) ∗ (bigSep (Finset.Ico (i.val + 2) 8) fun x => ldAt c x)
          ∗ (bigSep (Finset.Ico (i.val + 2) (min (i.val + 3) 8)) fun x => ldCred c x) ∗ (bigSep (Finset.Ico (i.val + 4) 8) fun x => ldTok m c x)
          ∗ (bigSep (Finset.range (i.val + 2)) fun x => ldDone m c x) ∗ (bigSep (Finset.Ico (i.val + 2) 8) fun x => ldRaw c x)
          ∗ (bigSep (Finset.Ico 6 (i.val + 1)) fun x => ldSlot c x) ∗ bigSep (convSet i.val) fun x => accB m c x) ?_ (tr_ldStart m K c (lk (i.val + 3))) ?_) Tr.nil
    · rw [bigSep_Ico_succ_bot h]
      unfold ldSlot
      rw [eb]
      iintro ⟨⟨#HC, HO, Ha, Hcs, ⟨⟨Hx, Htk⟩, Ht⟩, Hd, Hrs, Hss, Hs⟩, Hc⟩
      isplitl [Hx Htk Hs]
      · isplitr; · iexact HC
        isplitl [Hx]; · iexact Hx
        isplitl [Hs] <;> iassumption
      isplitr; · iexact HC
      isplitl [HO]; · iexact HO
      isplitl [Ha]; · iexact Ha
      isplitl [Hcs]; · iexact Hcs
      isplitl [Ht]; · iexact Ht
      isplitl [Hd]; · iexact Hd
      isplitl [Hrs]; · iexact Hrs
      isplitl [Hss] <;> iassumption
    · unfold ldSt
      rw [show min (i.val + 3) 8 = i.val + 3 by omega, show min (i.val + 1 + 3) 8 = i.val + 3 + 1 by omega,
        show i.val + 1 + 1 = i.val + 2 by omega, show i.val + 1 + 3 = i.val + 4 by omega, bigSep_Ico_succ_top (by omega : i.val + 2 ≤ i.val + 3),
        Finset.Ico_eq_empty (by omega : ¬ 6 < i.val + 1), Finset.Ico_eq_empty (by omega : ¬ 6 < i.val + 2)]
      iintro ⟨Hcr, HC, HO, Ha, Hcs, Ht, Hd, Hrs, Hss, Hc⟩
      isplitl [HC]; · iexact HC
      isplitl [HO]; · iexact HO
      isplitr [Hc]
      · isplitl [Ha]; · iexact Ha
        isplitl [Hcr Hcs]
        · isplitl [Hcr] <;> iassumption
        isplitl [Ht]; · iexact Ht
        isplitl [Hd]; · iexact Hd
        isplitl [Hrs] <;> iassumption
      iexact Hc
  · rw [dif_neg h]
    refine key _ _ (Tr.nil.conseq (Entails.of_eq rfl) ?_)
    unfold ldSt
    rw [show min (i.val + 3) 8 = 8 by omega, show min (i.val + 1 + 3) 8 = 8 by omega,
      show i.val + 1 + 1 = i.val + 2 by omega, Finset.Ico_eq_empty (by omega : ¬ i.val + 3 < 8), Finset.Ico_eq_empty (by omega : ¬ i.val + 1 + 3 < 8),
      show i.val + 2 = i.val + 1 + 1 by omega, bigSep_Ico_succ_top (by omega : 6 ≤ i.val + 1)]
    iintro ⟨⟨HC, HO, Ha, Hcs, Ht, Hd, Hrs, Hss, Hs⟩, Hc⟩
    isplitl [HC]; · iexact HC
    isplitl [HO]; · iexact HO
    isplitr [Hc]
    · isplitl [Ha]; · iexact Ha
      isplitl [Hcs]; · iexact Hcs
      isplitl [Ht]; · iexact Ht
      isplitl [Hd]; · iexact Hd
      isplitl [Hrs]; · iexact Hrs
      isplitl [Hs] <;> iassumption
    iexact Hc

/-! ## The reduce-scatter -/

/-- Between the events of the reduce-scatter. -/
def ring (n i : ℕ) : sProp 𝕄 := iprop(rsSt m K c n i ∗ ldSt m c i)

theorem tr_ring_hop (n i : ℕ) (hn : n < 28) (hi : ldIdx n < i) : Tr c (ring m K c n i) (rsHop c n) (ring m K c (n + 1) i) :=
  (tr_rs m K c n i hn hi).frame (ldSt m c i)

theorem tr_ring_ld (n : ℕ) (i : Fin 7) (h : ∀ x ∈ convSet i.val, n ≤ x) :
    Tr c (ring m K c n i.val) (seqs (ldConv c i)) (ring m K c n (i.val + 1)) := by
  refine Tr.on iprop((bigSep (Finset.Ico n 56) fun i => recvR c i) ∗ (bigSep (Finset.Ico (n + 4) 60) fun i => toks? c i)
    ∗ (bigSep (Finset.range (n + 4)) fun i => agLeft m c i) ∗ (bigSep (Finset.range n) fun i => got c i)
    ∗ (bigSep (Finset.Ico (n + 4) 32) fun i => peerSlot c i) ∗ (bigSep (Finset.range n) fun i => some_ c (evSlot i))
    ∗ bigSep (avail n i.val) fun x => accB m c x) ?_ (tr_ldConv m K c (n + 4) i) ?_
  · unfold ring rsSt core
    iintro ⟨⟨⟨HC, HO, H1, H2, H3, H4⟩, H5, H6, H7⟩, H8⟩
    isplitl [HC HO H8]
    · isplitl [HC]; · iexact HC
      isplitl [HO] <;> iassumption
    isplitl [H1]; · iexact H1
    isplitl [H2]; · iexact H2
    isplitl [H3]; · iexact H3
    isplitl [H4]; · iexact H4
    isplitl [H5]; · iexact H5
    isplitl [H6] <;> iassumption
  · have e : (bigSep (avail n (i.val + 1)) fun x => accB m c x : sProp 𝕄)
        = iprop((bigSep (convSet i.val) fun x => accB m c x) ∗ bigSep (avail n i.val) fun x => accB m c x) := by
      rw [avail_conv h, BI.bigSep_union (conv_disjoint n i.val)]; rfl
    unfold ring rsSt core
    rw [e]
    iintro ⟨⟨HC, HO, H8, H9⟩, H1, H2, H3, H4, H5, H6, H7⟩
    isplitr [H8]
    · isplitl [HC HO H1 H2 H3 H4]
      · isplitl [HC]; · iexact HC
        isplitl [HO]; · iexact HO
        isplitl [H1]; · iexact H1
        isplitl [H2]; · iexact H2
        isplitl [H3] <;> iassumption
      isplitl [H5]; · iexact H5
      isplitl [H6]; · iexact H6
      isplitl [H9] <;> iassumption
    iexact H8

theorem tr_reduceScatter : Tr c (ring m K c 0 2) (seqs (reduceScatter c)) (ring m K c 28 7) := by
  have hop (n i : ℕ) (hn : n < 28) (hi : ldIdx n < i) := tr_ring_hop m K c n i hn hi
  unfold reduceScatter
  refine Tr.append (B := ring m K c 12 7) ?_ ((tr_rsTail m K c).frame (ldSt m c 7))
  refine Tr.append (B := ring m K c 12 6) ?_ (tr_ring_ld m K c 12 6 (by decide +kernel))
  refine Tr.append (B := ring m K c 9 6) ?_
    ((hop 9 6 (by decide) (by decide)).cons ((hop 10 6 (by decide) (by decide)).cons ((hop 11 6 (by decide) (by decide)).cons Tr.nil)))
  refine Tr.append (B := ring m K c 9 5) ?_ (tr_ring_ld m K c 9 5 (by decide +kernel))
  refine Tr.append (B := ring m K c 8 5) ?_ ((hop 8 5 (by decide) (by decide)).cons Tr.nil)
  refine Tr.append (B := ring m K c 8 4) ?_ (tr_ring_ld m K c 8 4 (by decide +kernel))
  refine Tr.append (B := ring m K c 5 4) ?_
    ((hop 5 4 (by decide) (by decide)).cons ((hop 6 4 (by decide) (by decide)).cons ((hop 7 4 (by decide) (by decide)).cons Tr.nil)))
  refine Tr.append (B := ring m K c 5 3) ?_ (tr_ring_ld m K c 5 3 (by decide +kernel))
  refine Tr.append (B := ring m K c 4 3) ?_ ((hop 4 3 (by decide) (by decide)).cons Tr.nil)
  refine Tr.append (B := ring m K c 4 2) ?_ (tr_ring_ld m K c 4 2 (by decide +kernel))
  exact (hop 0 2 (by decide) (by decide)).cons ((hop 1 2 (by decide) (by decide)).cons ((hop 2 2 (by decide) (by decide)).cons
    ((hop 3 2 (by decide) (by decide)).cons Tr.nil)))

end Cert.AllReduce

end
-- ==== Proof.Opening.lean ====
/- What comes before the first receive, and the whole body. -/
module

public import proofs.«01_k».proof.Proof.Loads

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

/-- A device's own block, sent first. -/
theorem tr_ownSend (n : ℕ) (hn : n < 4) :
    Tr c iprop(ctx m K ∗ cast1 m c c (jOf n) (hOf n) ∗ peerSlot c n ∗ ow c (Owed n c) ∗ toks c n) (rsSend c n)
      iprop(sent c n ∗ ow c (Owed (n + 1) c)) := by
  have h4 : n / 4 = 0 := by omega
  have ek : ck n c = c := by unfold ck; rw [h4]; exact rot_zero _ c
  have ev : val m n c = XV m c c (jOf n) (hOf n) := by unfold val; rw [ek, h4]; rfl
  have eh : (holds c (evBox n c) (val m n c) : sProp 𝕄) = cast1 m c c (jOf n) (hOf n) := by unfold evBox cast1; rw [ev, ek]
  have ep : (pass n (ck n c) : sProp 𝕄) = iprop(emp) := by unfold pass; rw [if_pos (by omega), h4, Finset.range_zero, bigSep_empty]; rfl
  refine (tr_rsSend m K c n (by omega)).conseq ?_ (Entails.of_eq rfl)
  unfold sendPre
  rw [eh, ep]
  iintro ⟨HC, H1, H2, H3, H4⟩
  isplitl [HC]; · iexact HC
  isplitl [H1]; · iexact H1
  isplitl [H2]; · iexact H2
  isplitr; · iempintro
  isplitl [H3] <;> iassumption

/-- The slots handed over at the barrier are those the events are sent to. -/
theorem peers_of_bar : (iprop(barPay c 0 ∗ barPay c 1) : sProp 𝕄) ⊢ bigSep (Finset.Ico 0 32) fun n => peerSlot c n := by
  have e : Finset.Ico 0 32 = Finset.Ico 28 32 ∪ (evs 0 ∪ evs 1) := by decide +kernel
  have d1 : Disjoint (Finset.Ico 28 32) (evs 0 ∪ evs 1) := by decide +kernel
  have d2 : Disjoint (evs 0) (evs 1) := by decide +kernel
  have hb (h : Fin 2) : (bigSep (evs h) fun n => peerSlot c n : sProp 𝕄) = barPay c h := by
    unfold barPay
    refine bigSep_congr fun n hn => ?_
    unfold peerSlot
    rw [if_pos (Finset.mem_range.mp (Finset.mem_filter.mp hn).1), (Finset.mem_filter.mp hn).2]
  have he : (bigSep (Finset.Ico 28 32) fun n => peerSlot c n : sProp 𝕄) = iprop(emp) := by
    rw [show (bigSep (Finset.Ico 28 32) fun n => peerSlot c n : sProp 𝕄) = bigSep (Finset.Ico 28 32) fun _ => iprop(emp) from
      bigSep_congr fun n hn => if_neg (by have := (Finset.mem_Ico.mp hn).1; omega)]
    exact bigSep_emp_const _
  have h : (bigSep (Finset.Ico 0 32) fun n => peerSlot c n : sProp 𝕄) = iprop(emp ∗ barPay c 0 ∗ barPay c 1) := by
    rw [e, BI.bigSep_union d1, BI.bigSep_union d2, hb, hb, he]; rfl
  rw [h]
  iintro H
  isplitr; · iempintro
  iexact H

/-- What a device starts the body with. -/
def begun : sProp 𝕄 :=
  iprop(ctx m K ∗ ow c (O₀ c) ∗ (dutyTok ER (barCell (rot 1 1 c)) 0 (dBar 0) ∗ dutyTok ER (barCell (rot 0 1 c)) 0 (dBar 1))
    ∗ (mySlots c 0 ∗ mySlots c 1) ∗ (cred (tallyAt (barCell c) () 2) ∗ atPos ER (barCell c) 0 ∅ 0)
    ∗ (bigSep (Finset.Ico 0 56) fun n => recvR c n) ∗ (bigSep (Finset.Ico 0 60) fun n => toks? c n)
    ∗ (bigSep (Finset.Ico 0 8) fun n => ldAt c n) ∗ (bigSep (Finset.Ico 0 8) fun n => ldTok m c n) ∗ (bigSep (Finset.Ico 0 8) fun n => ldRaw c n)
    ∗ (some_ c (stageSl 0) ∗ some_ c (stageSl 1)))

/-- The first chunk of the result, in halves. -/
theorem raw_halves : (ldRaw c 0 : sProp 𝕄) ⊢ iprop(rawHalf c c 0 ∗ rawHalf c c 1) := by
  have e : ldK (lk 0) c = c := rot_zero 0 c
  have h (f : Buf (Elt F) (outL c)) : (outL c ↦[(chunkR c).set]{fullShare} f : sProp 𝕄)
      = iprop((outL c ↦[(halfRect c 0).set]{fullShare} f) ∗ (outL c ↦[(halfRect c 1).set]{fullShare} f)) := (chunk_halves c c f).trans (Ring.bigSep_fin2 _)
  unfold ldRaw rawChunk rawHalf
  rw [e]
  iintro ⟨%f, H⟩
  ihave H := (Entails.of_eq (h f)) $$ H
  icases H with ⟨H0, H1⟩
  isplitl [H0]
  · iexists f; iexact H0
  · iexists f; iexact H1

theorem peers_first : (iprop(barPay c 0 ∗ barPay c 1) : sProp 𝕄)
    ⊢ iprop(peerSlot c 0 ∗ peerSlot c 1 ∗ peerSlot c 2 ∗ peerSlot c 3 ∗ bigSep (Finset.Ico 4 32) fun n => peerSlot c n) := by
  refine (peers_of_bar c).trans (Entails.of_eq ?_)
  rw [bigSep_Ico_succ_bot (by decide : 0 < 32), bigSep_Ico_succ_bot (by decide : 0 + 1 < 32), bigSep_Ico_succ_bot (by decide : 0 + 1 + 1 < 32),
    bigSep_Ico_succ_bot (by decide : 0 + 1 + 1 + 1 < 32)]

theorem first_done : (iprop(ctx m K ∗ ow c (Owed 4 c) ∗ (bigSep (Finset.Ico 0 56) fun n => recvR c n) ∗ (bigSep (Finset.Ico 4 60) fun n => toks? c n)
    ∗ (sent c 0 ∗ sent c 1 ∗ sent c 2 ∗ sent c 3) ∗ (bigSep (Finset.Ico 4 32) fun n => peerSlot c n)
    ∗ (bigSep (Finset.Ico 1 8) fun n => ldAt c n) ∗ (ldCred c 1 ∗ ldCred c 2) ∗ (bigSep (Finset.Ico 3 8) fun n => ldTok m c n)
    ∗ ldDone m c 0 ∗ (bigSep (Finset.Ico 1 8) fun n => ldRaw c n)) : sProp 𝕄) ⊢ ring m K c 0 0 := by
  have l0 : (agLeft m c 0 : sProp 𝕄) = sent c 0 := if_pos (by decide)
  have l1 : (agLeft m c 1 : sProp 𝕄) = sent c 1 := if_pos (by decide)
  have l2 : (agLeft m c 2 : sProp 𝕄) = sent c 2 := if_pos (by decide)
  have l3 : (agLeft m c 3 : sProp 𝕄) = sent c 3 := if_pos (by decide)
  unfold ring rsSt core ldSt
  rw [show avail 0 0 = ∅ by decide +kernel, show Finset.Ico 6 (0 + 1) = ∅ by decide, show min (0 + 3) 8 = 0 + 1 + 1 + 1 by decide,
    bigSep_Ico_succ_bot (by decide : 0 + 1 < 0 + 1 + 1 + 1), bigSep_Ico_one, bigSep_range_succ 0, bigSep_range_succ 3, bigSep_range_succ 2, bigSep_range_succ 1, bigSep_range_succ 0,
    Finset.range_zero, bigSep_empty, bigSep_empty, bigSep_empty, bigSep_empty, bigSep_empty, bigSep_empty, l0, l1, l2, l3]
  iintro ⟨HC, HO, Hr, Ht, ⟨S0, S1, S2, S3⟩, Hp, Ha, ⟨C1, C2⟩, Hl, Hd, Hw⟩
  isplitr [Ha C1 C2 Hl Hd Hw]
  · isplitl [HC HO Hr Ht S0 S1 S2 S3]
    · isplitl [HC]; · iexact HC
      isplitl [HO]; · iexact HO
      isplitl [Hr]; · iexact Hr
      isplitl [Ht]; · iexact Ht
      isplitl
      · isplitl [S3]; · iexact S3
        isplitl [S2]; · iexact S2
        isplitl [S1]; · iexact S1
        isplitl [S0]; · iexact S0
        iempintro
      iempintro
    isplitl [Hp]; · iexact Hp
    isplitr <;> iempintro
  isplitl [Ha]; · iexact Ha
  isplitl [C1 C2]
  · isplitl [C1] <;> iassumption
  isplitl [Hl]; · iexact Hl
  isplitl [Hd]
  · isplitl [Hd]; · iexact Hd
    iempintro
  isplitl [Hw]; · iexact Hw
  iempintro

theorem tr_first : Tr c (begun m K c)
    (seqs [ldStart c 0, ldStart c 1, barr c, ldWait c 0, ownConv c 0, rsSend c 0, rsSend c 1, ownConv c 1, rsSend c 2, rsSend c 3, ldStart c 2])
    iprop(ring m K c 0 0 ∗ semVal (barCell c) 0) := fun k Q => by
  have e0 : ldK 0 c = c := rot_zero 0 c
  have hs0 := tr_ldStart m K c 0
  have hs1 := tr_ldStart m K c 1
  have hs2 := tr_ldStart m K c 2
  have hw0 := tr_ldWait m K c 0 0
  have ho (j : Fin 2) : Tr c iprop(holds c (stageSl 0) (xChunk m c c) ∗ rawHalf c c j) (ownConv c j)
      iprop(holds c (stageSl 0) (xChunk m c c) ∗ cast1 m c c j 0 ∗ cast1 m c c j 1) := by
    have h := tr_ownConv m c j
    rw [Ring.bigSep_fin2] at h
    exact h
  unfold loadPay at hw0
  rw [e0] at hw0
  have t0 : (toks? c 0 : sProp 𝕄) = toks c 0 := if_pos (by decide)
  have t1 : (toks? c 1 : sProp 𝕄) = toks c 1 := if_pos (by decide)
  have t2 : (toks? c 2 : sProp 𝕄) = toks c 2 := if_pos (by decide)
  have t3 : (toks? c 3 : sProp 𝕄) = toks c 3 := if_pos (by decide)
  unfold begun seqs seqs seqs seqs seqs seqs seqs seqs seqs seqs seqs seqs
  simp only [Prog.bind_assoc, Prog.pure_eq_ret, Prog.bind_ret]
  rw [bigSep_Ico_succ_bot (by decide : 0 < 60), bigSep_Ico_succ_bot (by decide : 0 + 1 < 60), bigSep_Ico_succ_bot (by decide : 0 + 1 + 1 < 60),
    bigSep_Ico_succ_bot (by decide : 0 + 1 + 1 + 1 < 60), t0, t1, t2, t3,
    bigSep_Ico_succ_bot (by decide : 0 < 8), bigSep_Ico_succ_bot (by decide : 0 < 8), bigSep_Ico_succ_bot (by decide : 0 < 8),
    bigSep_Ico_succ_bot (A := fun n => ldTok m c n) (by decide : 0 + 1 < 8), bigSep_Ico_succ_bot (A := fun n => ldTok m c n) (by decide : 0 + 1 + 1 < 8)]
  iintro ⟨#HC, HO, ⟨TB1, TB0⟩, ⟨My0, My1⟩, ⟨HcB, HaB⟩, Hr, ⟨T0, T1, T2, T3, Ts⟩, ⟨A0, As⟩, ⟨⟨X0, L0⟩, ⟨X1, L1⟩, ⟨X2, L2⟩, Ls⟩, ⟨R0, Rs⟩, G0, G1⟩ Hk
  iapply (hs0 _ _) $$ [X0 L0 G0]
  · isplitr; · iexact HC
    isplitl [X0]; · iexact X0
    isplitl [G0]; · iexact G0
    iexact L0
  iintro C0
  iapply (hs1 _ _) $$ [X1 L1 G1]
  · isplitr; · iexact HC
    isplitl [X1]; · iexact X1
    isplitl [G1]; · iexact G1
    iexact L1
  iintro C1
  iapply (tr_barr m K c _ _) $$ [HO TB1 TB0 My0 My1 HcB HaB]
  · isplitr; · iexact HC
    isplitl [HO]; · iexact HO
    isplitl [TB1]; · iexact TB1
    isplitl [TB0]; · iexact TB0
    isplitl [My0]; · iexact My0
    isplitl [My1]; · iexact My1
    isplitl [HcB] <;> iassumption
  iintro ⟨HzB, HO, Hbar⟩
  ihave Hp := (peers_first c) $$ Hbar
  icases Hp with ⟨P0, P1, P2, P3, Ps⟩
  iapply (hw0 _ _) $$ [HO C0 A0]
  · isplitr; · iexact HC
    isplitl [C0]; · iexact C0
    isplitl [A0]; · iexact A0
    iexact HO
  iintro ⟨Hz0, ⟨Hst, X0⟩, HO⟩
  ihave R0 := (raw_halves c) $$ R0
  icases R0 with ⟨R0, R1⟩
  iapply (ho 0 _ _) $$ [Hst R0]
  · isplitl [Hst]; · iexact Hst
    iexact R0
  iintro ⟨Hst, B0, B1⟩
  iapply (tr_ownSend m K c 0 (by decide) _ _) $$ [B0 P0 HO T0]
  · isplitr; · iexact HC
    isplitl [B0]; · iexact B0
    isplitl [P0]; · iexact P0
    isplitl [HO] <;> iassumption
  iintro ⟨S0, HO⟩
  iapply (tr_ownSend m K c 1 (by decide) _ _) $$ [B1 P1 HO T1]
  · isplitr; · iexact HC
    isplitl [B1]; · iexact B1
    isplitl [P1]; · iexact P1
    isplitl [HO] <;> iassumption
  iintro ⟨S1, HO⟩
  iapply (ho 1 _ _) $$ [Hst R1]
  · isplitl [Hst]; · iexact Hst
    iexact R1
  iintro ⟨Hst, B0, B1⟩
  iapply (tr_ownSend m K c 2 (by decide) _ _) $$ [B0 P2 HO T2]
  · isplitr; · iexact HC
    isplitl [B0]; · iexact B0
    isplitl [P2]; · iexact P2
    isplitl [HO] <;> iassumption
  iintro ⟨S2, HO⟩
  iapply (tr_ownSend m K c 3 (by decide) _ _) $$ [B1 P3 HO T3]
  · isplitr; · iexact HC
    isplitl [B1]; · iexact B1
    isplitl [P3]; · iexact P3
    isplitl [HO] <;> iassumption
  iintro ⟨S3, HO⟩
  ihave Hst := (holds_some c (stageSl 0) (xChunk m c c)) $$ Hst
  iapply (hs2 _ _) $$ [X2 L2 Hst]
  · isplitr; · iexact HC
    isplitl [X2]; · iexact X2
    isplitl [Hst]; · iexact Hst
    iexact L2
  iintro C2
  iapply Hk
  isplitr [HzB]
  · iapply (first_done m K c)
    isplitr; · iexact HC
    isplitl [HO]; · iexact HO
    isplitl [Hr]; · iexact Hr
    isplitl [Ts]; · iexact Ts
    isplitl [S0 S1 S2 S3]
    · isplitl [S0]; · iexact S0
      isplitl [S1]; · iexact S1
      isplitl [S2] <;> iassumption
    isplitl [Ps]; · iexact Ps
    isplitl [As]; · iexact As
    isplitl [C1 C2]
    · isplitl [C1]; · iexact C1
      iexact C2
    isplitl [Ls]; · iexact Ls
    isplitl [Hz0 X0]
    · isplitl [Hz0]; · iexact Hz0
      iexact X0
    iexact Rs
  iexact HzB

theorem tr_opening : Tr c (begun m K c) (seqs (opening c)) iprop(ring m K c 0 2 ∗ semVal (barCell c) 0) := by
  unfold opening
  refine Tr.append (B := iprop(ring m K c 0 1 ∗ semVal (barCell c) 0)) ?_ ((tr_ring_ld m K c 0 1 (by decide +kernel)).frame _)
  exact Tr.append (tr_first m K c) ((tr_ring_ld m K c 0 0 (by decide +kernel)).frame _)

end Cert.AllReduce

end
-- ==== Proof.Whole.lean ====
/- The body from what the launch deals a device to what the device ends with. -/
module

public import proofs.«01_k».proof.Proof.Opening

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CKey → ℕ) (c : Dev nD)

theorem ev_fin {t : ℕ} (h : t < 56) : ev t = ⟨t, h⟩ := Fin.ext (ev_val h)
theorem lk_fin {t : ℕ} (h : t < 8) : lk t = ⟨t, h⟩ := Fin.ext (Nat.mod_eq_of_lt h)

/-- A family over the events, by number; -/
theorem by_event (D : Fin 56 → sProp 𝕄) : bigSep Finset.univ D = bigSep (Finset.range 56) fun n => D (ev n) :=
  Ring.bigSep_fin_eq_range 56 D _ fun t h => by rw [ev_fin h]
/-- one over the loads. -/
theorem by_load (D : Fin 8 → sProp 𝕄) : bigSep Finset.univ D = bigSep (Finset.range 8) fun n => D (lk n) :=
  Ring.bigSep_fin_eq_range 8 D _ fun t h => by rw [lk_fin h]
/-- One over the own semaphores, by kind. -/
theorem by_kind (D : OwnKey → sProp 𝕄) : bigSep Finset.univ D
    = iprop((bigSep (Finset.range 8) fun n => D (kLoad (lk n))) ∗ (bigSep (Finset.range 56) fun n => D (kSend (ev n)))
      ∗ bigSep (Finset.range 56) fun n => D (kRecv (ev n))) := by
  rw [BI.bigSep_univ_sum, BI.bigSep_univ_sum, by_load, by_event, by_event]; rfl

/-! ## The start -/

/-- The device's buffers. -/
def bufs : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))
/-- The device's tokens: its rights, its positions, its credits. -/
def kit : sProp 𝕄 :=
  iprop((dutyTok ER (barCell (rot 1 1 c)) 0 (dBar 0) ∗ dutyTok ER (barCell (rot 0 1 c)) 0 (dBar 1))
    ∗ (cred (tallyAt (barCell c) () 2) ∗ atPos ER (barCell c) 0 ∅ 0)
    ∗ (bigSep Finset.univ fun k : OwnKey => atPos ER (ownCell c k) 0 ∅ 0)
    ∗ (bigSep Finset.univ fun n : Fin 56 => cred (tallyAt (ownCell c (kRecv n)) () NS))
    ∗ (bigSep Finset.univ fun i : Fin 8 => dutyTok ER (ownCell c (kLoad i)) 0 (dOwn (kLoad i)))
    ∗ (bigSep Finset.univ fun n : Fin 56 => dutyTok ER (ownCell c (kSend n)) 0 (dOwn (kSend n)))
    ∗ (bigSep Finset.univ fun n : Fin 56 => dutyTok ER (ownCell (rot (hOf n.val) 1 c) (kRecv n)) 0 (dOwn (kRecv n))))

/-- The result, unwritten, by the loads' chunks. -/
theorem raw_chunks : (iprop(∃ f, outL c ↦{fullShare} f) : sProp 𝕄) ⊢ bigSep (Finset.Ico 0 8) fun n => ldRaw c n := by
  have h (f : Buf (Elt F) (outL c)) : (outL c ↦{fullShare} f : sProp 𝕄) ⊢ bigSep Finset.univ fun k : Dev nD => rawChunk c k := by
    rw [out_chunks]
    refine bigSep_mono fun k _ => ?_
    show _ ⊢ rawChunk c k
    unfold rawChunk
    iintro H; iexists f; iexact H
  have e : (bigSep Finset.univ fun k : Dev nD => rawChunk c k : sProp 𝕄) = bigSep (Finset.range 8) fun n => ldRaw c n := by
    rw [bigSep_univ_equiv (Equiv.ofBijective (fun i : Fin 8 => ldK i c) ⟨fun i i' => ldK_inj c i i', ldK_surj c⟩) (fun k : Dev nD => rawChunk (F := F) c k)]
    exact by_load fun i => rawChunk c (ldK i c)
  rw [← Finset.range_eq_Ico]
  rw [e] at h
  iintro ⟨%f, H⟩
  iapply (h f) $$ H

theorem x_loads : ((c : Thread nD τ).loc main_arg0 ↦{fullShare} m ((c : Thread nD τ).loc main_arg0) : sProp 𝕄)
    = bigSep (Finset.range 8) fun n => xPts m c (lk n) := (x_chunks m c).trans (by_load _)

theorem toks_all : (iprop((bigSep (Finset.range 56) fun n => dutyTok ER (ownCell c (kSend (ev n))) 0 (dOwn (kSend (ev n))))
      ∗ bigSep (Finset.range 56) fun n => dutyTok ER (ownCell (rot (hOf (ev n).val) 1 c) (kRecv (ev n))) 0 (dOwn (kRecv (ev n)))) : sProp 𝕄)
    ⊢ bigSep (Finset.Ico 0 60) fun n => toks? c n := by
  have e : Finset.Ico 0 60 = Finset.range 56 ∪ Finset.Ico 56 60 := by decide +kernel
  have d : Disjoint (Finset.range 56) (Finset.Ico 56 60) := by decide +kernel
  have e1 : (bigSep (Finset.range 56) fun n => toks? c n : sProp 𝕄)
      = iprop((bigSep (Finset.range 56) fun n => dutyTok ER (ownCell c (kSend (ev n))) 0 (dOwn (kSend (ev n))))
        ∗ bigSep (Finset.range 56) fun n => dutyTok ER (ownCell (rot (hOf (ev n).val) 1 c) (kRecv (ev n))) 0 (dOwn (kRecv (ev n)))) := by
    rw [← bigSep_sep']
    refine bigSep_congr fun n hn => ?_
    have hn := Finset.mem_range.mp hn
    unfold toks? toks
    rw [if_pos hn, ev_val hn]
  have e2 : (bigSep (Finset.Ico 56 60) fun n => toks? c n : sProp 𝕄) = iprop(emp) :=
    (bigSep_congr (Ψ := fun _ => (iprop(emp) : sProp 𝕄)) fun n hn => if_neg (by have := (Finset.mem_Ico.mp hn).1; omega)).trans (bigSep_emp_const _)
  have h : (bigSep (Finset.Ico 0 60) fun n => toks? c n : sProp 𝕄)
      = iprop(((bigSep (Finset.range 56) fun n => dutyTok ER (ownCell c (kSend (ev n))) 0 (dOwn (kSend (ev n))))
        ∗ bigSep (Finset.range 56) fun n => dutyTok ER (ownCell (rot (hOf (ev n).val) 1 c) (kRecv (ev n))) 0 (dOwn (kRecv (ev n)))) ∗ emp) := by
    rw [e, BI.bigSep_union d, e1, e2]; rfl
  rw [h]
  iintro H
  isplitl [H]; · iexact H
  iempintro

theorem begun_intro :
    (iprop(ctx m K ∗ ow c (O₀ c) ∗ kit c ∗ bufs c ∗ (∃ f, outL c ↦{fullShare} f)
        ∗ ((c : Thread nD τ).loc main_arg0 ↦{fullShare} m ((c : Thread nD τ).loc main_arg0))) : sProp 𝕄)
      ⊢ iprop(begun m K c ∗ bigSep (Finset.range 56) fun n => atPos ER (ownCell c (kSend (ev n))) 0 ∅ 0) := by
  have e1 : (bigSep (Finset.Ico 0 56) fun n => recvR c n : sProp 𝕄)
      = iprop((bigSep (Finset.range 56) fun n => cred (tallyAt (ownCell c (kRecv (ev n))) () NS)) ∗ bigSep (Finset.range 56) fun n => atPos ER (ownCell c (kRecv (ev n))) 0 ∅ 0) := by
    rw [← Finset.range_eq_Ico]; exact bigSep_sep' _ _ _
  have e2 : (bigSep (Finset.Ico 0 8) fun n => ldTok m c n : sProp 𝕄)
      = iprop((bigSep (Finset.range 8) fun n => xPts m c (lk n)) ∗ bigSep (Finset.range 8) fun n => dutyTok ER (ownCell c (kLoad (lk n))) 0 (dOwn (kLoad (lk n)))) := by
    rw [← Finset.range_eq_Ico]; exact bigSep_sep' _ _ _
  have e3 : (bigSep (Finset.Ico 0 8) fun n => ldAt c n : sProp 𝕄) = bigSep (Finset.range 8) fun n => atPos ER (ownCell c (kLoad (lk n))) 0 ∅ 0 := by
    rw [← Finset.range_eq_Ico]
  unfold begun kit bufs mySlots
  rw [e1, e2, e3, x_loads, by_kind, by_event, by_event, by_event, by_load]
  iintro ⟨HC, HO, ⟨Tb, Cb, ⟨A1, A2, A3⟩, Cr, T1, T2, T3⟩, ⟨B0, B1, B2⟩, Ho, Hx⟩
  isplitr [A2]
  · isplitl [HC]; · iexact HC
    isplitl [HO]; · iexact HO
    isplitl [Tb]; · iexact Tb
    isplitl [B1 B2]
    · isplitl [B1]
      · iapply (comm0_split c) $$ B1
      · iapply (comm1_split c) $$ B2
    isplitl [Cb]; · iexact Cb
    isplitl [Cr A3]
    · isplitl [Cr] <;> iassumption
    isplitl [T2 T3]
    · iapply (toks_all c)
      isplitl [T2] <;> iassumption
    isplitl [A1]; · iexact A1
    isplitl [Hx T1]
    · isplitl [Hx] <;> iassumption
    isplitl [Ho]
    · iapply (raw_chunks c) $$ Ho
    iapply (stage_split c) $$ B0
  iexact A2

/-! ## The end -/

/-- The event of the all-gather after which block `(k, j, h)` is as device `c` returns it. -/
def endEv (x : Dev nD × Fin 2 × Fin 2) : ℕ :=
  4 * (7 + (if x.2.2 = 0 then (c.val + 9 - x.1.val) % 8 else (x.1.val + 9 - c.val) % 8)) + 2 * x.2.1.val + x.2.2.val

theorem endEv_facts : ∀ (c : Dev nD) (k : Dev nD) (j h : Fin 2), 7 ≤ endEv c (k, j, h) / 4 ∧ ck (endEv c (k, j, h)) c = k
    ∧ jOf (endEv c (k, j, h)) = j ∧ hOf (endEv c (k, j, h)) = h := by decide +kernel
theorem endEv_set : ∀ c : Dev nD, (Finset.univ : Finset (Dev nD × Fin 2 × Fin 2)).image (endEv c) = Finset.Ico 28 60 := by decide +kernel
theorem endEv_inj (c : Dev nD) : Function.Injective (endEv c) := by
  rintro ⟨k, j, h⟩ ⟨k', j', h'⟩ e
  obtain ⟨-, h1, h2, h3⟩ := endEv_facts c k j h
  obtain ⟨-, h1', h2', h3'⟩ := endEv_facts c k' j' h'
  rw [e] at h1 h2 h3
  rw [← h1, ← h2, ← h3, h1', h2', h3']

theorem holds_out : (bigSep (Finset.Ico 28 60) fun n => holds c (evBox n c) (val m n c) : sProp 𝕄) ⊢ outL c ↦{fullShare} outV m := by
  refine (Entails.of_eq ?_).trans (boxes_out m c)
  rw [← endEv_set c, bigSep_image_of_injOn (endEv_inj c).injOn, BI.bigSep_univ_prod]
  refine bigSep_congr fun k _ => ?_
  rw [BI.bigSep_univ_prod]
  refine bigSep_congr fun j _ => bigSep_congr fun h _ => ?_
  obtain ⟨h0, h1, h2, h3⟩ := endEv_facts c k j h
  unfold evBox val
  rw [h1, h2, h3, Nat.min_eq_right h0]

/-- What a device ends with. -/
def ended : sProp 𝕄 :=
  iprop(ow c 0 ∗ semVal (barCell c) 0 ∗ (bigSep Finset.univ fun k : OwnKey => semVal (ownCell c k) 0) ∗ bufs c ∗ (outL c ↦{fullShare} outV m)
    ∗ ((c : Thread nD τ).loc main_arg0 ↦{fullShare} m ((c : Thread nD τ).loc main_arg0)))

theorem left_split : (bigSep (Finset.range 60) fun n => agLeft m c n : sProp 𝕄)
    = iprop((bigSep (Finset.range 56) fun n => sent c n) ∗ bigSep (Finset.Ico 56 60) fun n => holds c (evBox n c) (val m n c)) := by
  have e : Finset.range 60 = Finset.range 56 ∪ Finset.Ico 56 60 := by decide +kernel
  have d : Disjoint (Finset.range 56) (Finset.Ico 56 60) := by decide +kernel
  have e1 : (bigSep (Finset.range 56) fun n => agLeft m c n : sProp 𝕄) = bigSep (Finset.range 56) fun n => sent c n :=
    bigSep_congr fun n hn => if_pos (Finset.mem_range.mp hn)
  have e2 : (bigSep (Finset.Ico 56 60) fun n => agLeft m c n : sProp 𝕄) = bigSep (Finset.Ico 56 60) fun n => holds c (evBox n c) (val m n c) :=
    bigSep_congr fun n hn => if_neg (by have := (Finset.mem_Ico.mp hn).1; omega)
  rw [e, BI.bigSep_union d, e1, e2]
  rfl

theorem ends_split : (bigSep (Finset.range 56) fun n => endB m c n : sProp 𝕄)
    ⊢ iprop((bigSep (Finset.range 56) fun n => semVal (ownCell c (kSend (ev n))) 0) ∗ bigSep (Finset.Ico 28 56) fun n => holds c (evBox n c) (val m n c)) := by
  have e : (bigSep (Finset.Ico 28 56) fun n => sendPay m c n : sProp 𝕄) = bigSep (Finset.Ico 28 56) fun n => holds c (evBox n c) (val m n c) :=
    bigSep_congr fun n hn => if_neg (by have := (Finset.mem_Ico.mp hn).1; omega)
  have hs : (bigSep (Finset.range 56) fun n => sendPay m c n : sProp 𝕄) ⊢ bigSep (Finset.Ico 28 56) fun n => sendPay m c n :=
    BI.bigSep_subset (by decide +kernel)
  rw [← e, show (bigSep (Finset.range 56) fun n => endB m c n : sProp 𝕄)
    = iprop((bigSep (Finset.range 56) fun n => semVal (ownCell c (kSend (ev n))) 0) ∗ bigSep (Finset.range 56) fun n => sendPay m c n) from bigSep_sep' _ _ _]
  iintro ⟨H1, H2⟩
  isplitl [H1]; · iexact H1
  iapply hs $$ H2

theorem back_slots : (bigSep (Finset.range 28) fun n => some_ c (evSlot n) : sProp 𝕄) = iprop(mySlots c 0 ∗ mySlots c 1) := by
  have e : Finset.range 28 = evs 0 ∪ evs 1 := by decide +kernel
  have d : Disjoint (evs 0) (evs 1) := by decide +kernel
  unfold mySlots
  rw [e, BI.bigSep_union d]; rfl

/-- What is left over when the all-gather is done. -/
def rest : sProp 𝕄 :=
  iprop(semVal (barCell c) 0 ∗ (bigSep (Finset.range 56) fun n => got c n) ∗ (bigSep (Finset.Ico 56 60) fun n => holds c (evBox n c) (val m n c))
    ∗ (mySlots c 0 ∗ mySlots c 1) ∗ (bigSep (Finset.range 8) fun n => ldDone m c n) ∗ (some_ c (stageSl 0) ∗ some_ c (stageSl 1)))

theorem ended_intro : (iprop((ctx m K ∗ ow c (Owed 60 c) ∗ bigSep (Finset.range 56) fun n => endB m c n) ∗ rest m c) : sProp 𝕄) ⊢ ended m c := by
  have e1 : (bigSep (Finset.range 8) fun n => ldDone m c n : sProp 𝕄)
      = iprop((bigSep (Finset.range 8) fun n => semVal (ownCell c (kLoad (lk n))) 0) ∗ bigSep (Finset.range 8) fun n => xPts m c (lk n)) := bigSep_sep' _ _ _
  have e2 : (bigSep (Finset.Ico 28 60) fun n => holds c (evBox n c) (val m n c) : sProp 𝕄)
      = iprop((bigSep (Finset.Ico 28 56) fun n => holds c (evBox n c) (val m n c)) ∗ bigSep (Finset.Ico 56 60) fun n => holds c (evBox n c) (val m n c)) := by
    rw [show Finset.Ico 28 60 = Finset.Ico 28 56 ∪ Finset.Ico 56 60 by decide +kernel, BI.bigSep_union (by decide +kernel)]; rfl
  have e3 := holds_out m c
  rw [e2] at e3
  unfold rest ended bufs mySlots
  rw [e1, x_loads, by_kind, Owed_beyond c (by decide)]
  iintro ⟨⟨-, HO, He⟩, Hb, Hg, Hh, ⟨M0, M1⟩, ⟨Hl, Hx⟩, Hs⟩
  ihave He := (ends_split m c) $$ He
  icases He with ⟨He, Hh'⟩
  isplitl [HO]; · iexact HO
  isplitl [Hb]; · iexact Hb
  isplitl [Hl He Hg]
  · isplitl [Hl]; · iexact Hl
    isplitl [He]; · iexact He
    iexact Hg
  isplitl [Hs M0 M1]
  · isplitl [Hs]; · iapply (stage_join c) $$ Hs
    isplitl [M0]
    · iapply (comm0_join c) $$ M0
    · iapply (comm1_join c) $$ M1
  isplitl [Hh Hh']
  · iapply e3
    isplitl [Hh'] <;> iassumption
  iexact Hx

theorem core_end : (iprop((core m K c 56 ∗ (bigSep (Finset.range 28) fun i => some_ c (evSlot i)) ∗ ldSt m c 7 ∗ semVal (barCell c) 0)
        ∗ bigSep (Finset.range 56) fun n => atPos ER (ownCell c (kSend (ev n))) 0 ∅ 0) : sProp 𝕄)
    ⊢ iprop((ctx m K ∗ ow c (Owed 60 c) ∗ bigSep (Finset.range 56) fun n => endA c n) ∗ rest m c) := by
  have e1 : (bigSep (Finset.range 56) fun n => endA c n : sProp 𝕄)
      = iprop((bigSep (Finset.range 56) fun n => sent c n) ∗ bigSep (Finset.range 56) fun n => atPos ER (ownCell c (kSend (ev n))) 0 ∅ 0) := bigSep_sep' _ _ _
  have e2 : (bigSep (Finset.Ico 6 (7 + 1)) fun x => ldSlot c x : sProp 𝕄) = iprop(some_ c (stageSl 0) ∗ some_ c (stageSl 1)) := by
    rw [show 7 + 1 = 6 + 1 + 1 by decide, bigSep_Ico_succ_bot (by decide : 6 < 6 + 1 + 1), bigSep_Ico_one]; rfl
  unfold core ldSt rest
  rw [e1, e2, back_slots, left_split]
  iintro ⟨⟨⟨HC, HO, -, -, ⟨Hs, Hh⟩, Hg⟩, Hm, ⟨-, -, -, Hl, -, Hst⟩, Hb⟩, Ha⟩
  isplitl [HC HO Hs Ha]
  · isplitl [HC]; · iexact HC
    isplitl [HO]; · iexact HO
    isplitl [Hs] <;> iassumption
  isplitl [Hb]; · iexact Hb
  isplitl [Hg]; · iexact Hg
  isplitl [Hh]; · iexact Hh
  isplitl [Hm]; · iexact Hm
  isplitl [Hl]; · iexact Hl
  iexact Hst

/-- The whole body. -/
theorem tr_body :
    Tr c iprop(ctx m K ∗ ow c (O₀ c) ∗ kit c ∗ bufs c ∗ (∃ f, outL c ↦{fullShare} f)
        ∗ ((c : Thread nD τ).loc main_arg0 ↦{fullShare} m ((c : Thread nD τ).loc main_arg0)))
      (body c) (ended m c) := by
  have h1 := (tr_opening m K c).append ((tr_reduceScatter m K c).frame (semVal (barCell c) 0))
  have h2 : Tr c iprop(ring m K c 28 7 ∗ semVal (barCell c) 0) (seqs (allGather c))
      iprop(core m K c 56 ∗ (bigSep (Finset.range 28) fun i => some_ c (evSlot i)) ∗ ldSt m c 7 ∗ semVal (barCell c) 0) := by
    refine Tr.on iprop((bigSep (Finset.range 28) fun i => some_ c (evSlot i)) ∗ ldSt m c 7 ∗ semVal (barCell c) 0) ?_ (tr_allGather m K c) (Entails.of_eq rfl)
    unfold ring rsSt
    iintro ⟨⟨⟨Hc, -, Hs, -⟩, Hl⟩, Hb⟩
    isplitl [Hc]; · iexact Hc
    isplitl [Hs]; · iexact Hs
    isplitl [Hl] <;> iassumption
  have h3 := ((h1.append h2).frame (bigSep (Finset.range 56) fun n => atPos ER (ownCell c (kSend (ev n))) 0 ∅ 0)).conseq (begun_intro m K c) (core_end m K c)
  exact (h3.append ((tr_closing m K c).frame (rest m c))).conseq (Entails.of_eq rfl) (ended_intro m K c)

end Cert.AllReduce

end
-- ==== Proof.Deal.lean ====
/- What the launch deals each device: the cells opened, their tokens brought to the devices that use them, the credits. -/
module

public import proofs.«01_k».proof.Proof.Whole

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and their tokens -/

theorem cSem_inj {x x' : CKey} (h : cSem x = cSem x') : x = x' := by
  rcases x with ⟨⟩ | k <;> rcases x' with ⟨⟩ | k'
  · rfl
  · exact absurd h (by show ¬ (SemLoc.reg barS = osem k'); unfold osem; intro e; cases e)
  · exact absurd h (by show ¬ (osem k = SemLoc.reg barS); unfold osem; intro e; cases e)
  · exact congrArg Sum.inr (osem_inj h)

theorem kCell_inj : Function.Injective (kCell : Dev nD × CKey → GSem nD τ sig) := by
  rintro ⟨c, x⟩ ⟨c', x'⟩ h
  have h1 : c = c' := congrArg (fun g : GSem nD τ sig => g.1.1) h
  have h2 : x = x' := cSem_inj (congrArg Prod.snd h)
  rw [h1, h2]
/-- Every cell. -/
def allCells : Finset (GSem nD τ sig) := Finset.univ.map ⟨kCell, kCell_inj⟩

/-- A duty's token, at its cell. -/
abbrev tokOf (x : Dev nD × Duty) : GSem nD τ sig × ℕ × Duty := (dCell x.1 x.2, 0, x.2)
theorem tokOf_inj : Function.Injective (tokOf : Dev nD × Duty → GSem nD τ sig × ℕ × Duty) := by
  rintro ⟨c, d⟩ ⟨c', d'⟩ h
  have h1 : c = c' := congrArg (fun g : GSem nD τ sig × ℕ × Duty => g.1.1.1) h
  have h2 : d = d' := congrArg (fun g : GSem nD τ sig × ℕ × Duty => g.2.2) h
  rw [h1, h2]
/-- Every duty's. -/
def allToks : Finset (GSem nD τ sig × ℕ × Duty) := Finset.univ.map ⟨tokOf, tokOf_inj⟩

def u₀ : UU :=
  (initOf (Pipeline.cells cfgs cellOf_inj) (Pipeline.launchToks cfgs cellOf_inj), initOf allCells allToks)

/-- The tokens of a device's own cells. -/
def ownToks (c : Dev nD) : sProp 𝕄 := bigSep Finset.univ fun d : Duty => dutyTok ER (dCell c d) 0 d
/-- The positions in a device's own cells. -/
def places (c : Dev nD) : sProp 𝕄 := bigSep Finset.univ fun x : CKey => atPos ER (kCell (c, x)) 0 ∅ 0

/-- What the launch element deals a device. -/
def G (c : Dev nD) : sProp 𝕄 :=
  iprop((bigSep Finset.univ fun x : CKey => roundState ER (Rd m) (kCell (c, x)) 0)
    ∗ (bigSep Finset.univ fun x : CKey => iprop(atPos ER (kCell (c, x)) 0 ∅ 0 ∗ reached ER (kCell (c, x)) 0)) ∗ ownToks c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : CKey => Φ (kCell (c, x)) := by
    unfold allCells; rw [bigSep_map, BI.bigSep_univ_prod]; rfl
  have hT : bigSep allToks (fun x => (dutyTok ER x.1 x.2.1 x.2.2 : sProp 𝕄)) = bigSep Finset.univ fun c : Dev nD => ownToks c := by
    unfold allToks; rw [bigSep_map, BI.bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells opened -/

theorem ownSems0_eq (c : Dev nD) : (Pipeline.ownSems0 (Ix := Unit) (Name := ℕ) (U := UU) (Lvl := ℕ) (Val := Elt F) (τ := τ) osem c : sProp 𝕄)
    = bigSep Finset.univ fun k : OwnKey => semVal (ownCell c k) 0 := rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem bigSep_ckey (D : CKey → sProp 𝕄) : bigSep Finset.univ D = iprop(D (.inl ()) ∗ bigSep Finset.univ fun k : OwnKey => D (.inr k)) := by
  rw [BI.bigSep_univ_sum, show (Finset.univ : Finset Unit) = {()} from rfl, bigSep_singleton]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd m) κ (kCell (c, x))))
          ∗ (bigSep Finset.univ fun x => iprop(atPos ER (kCell (c, x)) 0 ∅ 0 ∗ reached ER (kCell (c, x)) 0)) ∗ ownToks c) := by
  have hv : iprop(Pipeline.ownSems0 (Ix := Unit) (Name := ℕ) (U := UU) (Lvl := ℕ) (Val := Elt F) (τ := τ) osem c ∗ unscopedSems0 c)
      ⊢ (bigSep Finset.univ fun x : CKey => semVal (kCell (c, x)) 0 : sProp 𝕄) := by
    rw [ownSems0_eq, unscopedSems0_eq, bigSep_ckey]
    iintro ⟨HO, HB⟩
    isplitl [HB]; · iexact HB
    iexact HO
  have ho : iprop((bigSep Finset.univ fun x : CKey => semVal (kCell (c, x)) 0) ∗ bigSep Finset.univ fun x : CKey => roundState ER (Rd m) (kCell (c, x)) 0)
      ⊢ (|={Set.univ}=> bigSep Finset.univ fun x => iprop(∃ κ : ℕ, cellInv ER (Rd m) κ (kCell (c, x))) : sProp 𝕄) := by
    rw [← bigSep_sep']
    exact (bigSep_mono fun x _ => (Rounds.body_intro ER (Rd m) (kCell (c, x))).trans inv_alloc).trans (bigSep_fupd _ _)
  unfold G
  iintro ⟨Hos, Hus, Hst, Hat, Htok⟩
  ihave Hv := hv $$ [Hos Hus]
  · isplitl [Hos] <;> iassumption
  imod ho $$ [Hv Hst] with Hinv
  · isplitl [Hv] <;> iassumption
  imodintro
  isplitl [Hinv]; · iexact Hinv
  isplitl [Hat] <;> iassumption

/-! ## The tokens brought to their devices -/

/-- The tokens of the duties a device pays. -/
def payToks (c : Dev nD) : sProp 𝕄 :=
  iprop((dutyTok ER (barCell (rot 1 1 c)) 0 (dBar 0) ∗ dutyTok ER (barCell (rot 0 1 c)) 0 (dBar 1))
    ∗ (bigSep Finset.univ fun i : Fin 8 => dutyTok ER (ownCell c (kLoad i)) 0 (dOwn (kLoad i)))
    ∗ (bigSep Finset.univ fun n : Fin 56 => dutyTok ER (ownCell c (kSend n)) 0 (dOwn (kSend n)))
    ∗ (bigSep Finset.univ fun n : Fin 56 => dutyTok ER (ownCell (rot (hOf n.val) 1 c) (kRecv n)) 0 (dOwn (kRecv n))))

theorem ownToks_eq (c : Dev nD) : (ownToks c : sProp 𝕄)
    = iprop((dutyTok ER (barCell c) 0 (dBar 0) ∗ dutyTok ER (barCell c) 0 (dBar 1))
    ∗ (bigSep Finset.univ fun i : Fin 8 => dutyTok ER (ownCell c (kLoad i)) 0 (dOwn (kLoad i)))
    ∗ (bigSep Finset.univ fun n : Fin 56 => dutyTok ER (ownCell c (kSend n)) 0 (dOwn (kSend n)))
    ∗ (bigSep Finset.univ fun n : Fin 56 => dutyTok ER (ownCell c (kRecv n)) 0 (dOwn (kRecv n)))) := by
  unfold ownToks
  rw [BI.bigSep_univ_sum, BI.bigSep_univ_sum, BI.bigSep_univ_sum, Ring.bigSep_fin2]; rfl

/-- The arrivals' tokens, one place along each event's direction. -/
theorem recv_around : (bigSep Finset.univ fun c : Dev nD => bigSep Finset.univ fun n : Fin 56 => (dutyTok ER (ownCell c (kRecv n)) 0 (dOwn (kRecv n)) : sProp 𝕄))
    = bigSep Finset.univ fun c : Dev nD => bigSep Finset.univ fun n : Fin 56 => dutyTok ER (ownCell (rot (hOf n.val) 1 c) (kRecv n)) 0 (dOwn (kRecv n)) := by
  rw [BI.bigSep_univ_comm, BI.bigSep_univ_comm (fun (c : Dev nD) (n : Fin 56) => (dutyTok ER (ownCell (rot (hOf n.val) 1 c) (kRecv n)) 0 (dOwn (kRecv n)) : sProp 𝕄))]
  exact bigSep_congr fun n _ => bigSep_univ_equiv (rotE (hOf n.val) 1) fun c : Dev nD => (dutyTok ER (ownCell c (kRecv n)) 0 (dOwn (kRecv n)) : sProp 𝕄)

theorem toks_around : (bigSep Finset.univ fun c : Dev nD => (ownToks c : sProp 𝕄)) ⊢ bigSep Finset.univ fun c : Dev nD => payToks c := by
  have e : (bigSep Finset.univ fun c : Dev nD => (ownToks c : sProp 𝕄)) = bigSep Finset.univ fun c : Dev nD => payToks c := by
    rw [bigSep_congr fun (c : Dev nD) _ => ownToks_eq (F := F) c]
    unfold payToks
    rw [bigSep_sep', bigSep_sep', bigSep_sep', bigSep_sep', bigSep_sep', bigSep_sep', bigSep_sep', bigSep_sep', recv_around,
      bigSep_univ_equiv (rotE 1 1) (fun c : Dev nD => (dutyTok ER (barCell c) 0 (dBar 0) : sProp 𝕄)),
      bigSep_univ_equiv (rotE 0 1) (fun c : Dev nD => (dutyTok ER (barCell c) 0 (dBar 1) : sProp 𝕄))]
    rfl
  exact Entails.of_eq e

/-- A device's ghost state after the launch's common step. -/
def G' (c : Dev nD) : sProp 𝕄 :=
  iprop(∃ K : Dev nD × CKey → ℕ, (bigSep Finset.univ fun x : Dev nD × CKey => iprop(cellInv ER (Rd m) (K x) (kCell x) ∗ reached ER (kCell x) 0))
    ∗ places c ∗ payToks c)

theorem regroup :
    (bigSep Finset.univ fun c : Dev nD => iprop((bigSep Finset.univ fun x => iprop(∃ κ : ℕ, cellInv ER (Rd m) κ (kCell (c, x))))
          ∗ (bigSep Finset.univ fun x => iprop(atPos ER (kCell (c, x)) 0 ∅ 0 ∗ reached ER (kCell (c, x)) 0)) ∗ ownToks c) : sProp 𝕄)
      ⊢ bigSep Finset.univ (G' m) := by
  rw [bigSep_sep', bigSep_sep', ← BI.bigSep_univ_prod (fun x : Dev nD × CKey => iprop(∃ κ : ℕ, cellInv ER (Rd m) κ (kCell x))),
    bigSep_congr (s := Finset.univ) (fun (c : Dev nD) _ => bigSep_sep' Finset.univ (fun x : CKey => (atPos ER (kCell (c, x)) 0 ∅ 0 : sProp 𝕄)) (fun x => reached ER (kCell (c, x)) 0)),
    bigSep_sep', ← BI.bigSep_univ_prod (fun x : Dev nD × CKey => (reached ER (kCell x) 0 : sProp 𝕄))]
  iintro ⟨HI, ⟨Hat, #HR⟩, Htok⟩
  ihave HK := (BI.bigSep_exists_pi Finset.univ (fun (x : Dev nD × CKey) (κ : ℕ) => (cellInv ER (Rd m) κ (kCell x) : sProp 𝕄))) $$ HI
  icases HK with ⟨%K, #HI⟩
  ihave Htk := (toks_around (F := F)) $$ Htok
  iapply (bigSep_with_persistent (S := Finset.univ) (R := bigSep Finset.univ fun x : Dev nD × CKey => iprop(cellInv ER (Rd m) (K x) (kCell x) ∗ reached ER (kCell x) 0))
    (Φ := fun c : Dev nD => iprop(places c ∗ payToks c)) (Ψ := G' m) fun c _ => by
      unfold G'
      iintro ⟨HR, HP⟩
      iexists K
      isplitl [HR] <;> iassumption)
  rw [bigSep_sep', bigSep_sep']
  isplitr
  · isplitl; · iexact HI
    iexact HR
  · isplitl [Hat]; · iexact Hat
    iexact Htk

/-- The launch's common step. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem bar_two (c : Dev nD) : iprop(cred (tallyAt (barCell c) () 1) ∗ cred (tallyAt (barCell c) () 1)) ⊢ (cred (tallyAt (barCell c) () 2) : sProp 𝕄) := by
  have e : (tallyAt (barCell c) () 1 + tallyAt (barCell c) () 1 : CellTallies nD τ sig Unit) = tallyAt (barCell c) () 2 := tallyAt_add _ _ _ _
  rw [← e]; exact (cred_add _ _).2

theorem creds_recv (c : Dev nD) :
    (Pipeline.launchCred (fun d => Owed 0 d) c : sProp 𝕄) ⊢ bigSep Finset.univ fun n : Fin 56 => cred (tallyAt (ownCell c (kRecv n)) () NS) := by
  unfold Owed
  rw [Pipeline.launchCred_sum, ← Finset.range_eq_Ico, by_event]
  exact bigSep_mono fun n _ => Pipeline.launchCred_tallyAt (osem (kRecv (ev n))) (rot (hOf n) 1) (rot (hOf n) 7)
    (rot_forth (hOf n) 1) (rot_back (hOf n) 1) () NS c

theorem creds (c : Dev nD) :
    (Pipeline.launchCred O₀ c : sProp 𝕄)
      ⊢ iprop(cred (tallyAt (barCell c) () 2) ∗ bigSep Finset.univ fun n : Fin 56 => cred (tallyAt (ownCell c (kRecv n)) () NS)) := by
  have e : (Pipeline.launchCred O₀ c : sProp 𝕄)
      = iprop((Pipeline.launchCred (fun d => Owed 0 d) c ∗ Pipeline.launchCred (fun d => tallyAt (barCell (rot 0 1 d)) () 1) c)
        ∗ Pipeline.launchCred (fun d => tallyAt (barCell (rot 1 1 d)) () 1) c) := by
    rw [← Pipeline.launchCred_add, ← Pipeline.launchCred_add]; rfl
  rw [e]
  iintro ⟨⟨HR, H0⟩, H1⟩
  isplitl [H0 H1]
  · iapply (bar_two c)
    isplitl [H0]
    · iapply (Pipeline.launchCred_tallyAt (SemLoc.reg barS) (rot 0 1) (rot 0 7) (rot_forth 0 1) (rot_back 0 1) () 1 c) $$ H0
    · iapply (Pipeline.launchCred_tallyAt (SemLoc.reg barS) (rot 1 1) (rot 1 7) (rot_forth 1 1) (rot_back 1 1) () 1 c) $$ H1
  · iapply (creds_recv c) $$ HR

end Cert.AllReduce

end
-- ==== Proof.Launch.lean ====
/- The run: every device started from launch, every device ended with the result. -/
module

public import proofs.«01_k».proof.Proof.Deal
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-! ## The region's proof data -/

/-- What the body starts from, but for the buffers. -/
def start (c : Dev nD) : sProp 𝕄 :=
  iprop((∃ K, ctx m K) ∗ kit c ∗ ((c : Thread nD τ).loc main_arg0 ↦{fullShare} m ((c : Thread nD τ).loc main_arg0)))
def Φ₀ (c : Dev nD) : sProp 𝕄 := iprop(start m c ∗ bufs c)
/-- What it ends with. -/
def Φ₁ (c : Dev nD) : sProp 𝕄 :=
  iprop(semVal (barCell c) 0 ∗ (bigSep Finset.univ fun k : OwnKey => semVal (ownCell c k) 0) ∗ bufs c
    ∗ ((c : Thread nD τ).loc main_arg0 ↦{fullShare} m ((c : Thread nD τ).loc main_arg0)))

def dats (_ : Fin 1) (c : Dev nD) : Dat τ (Elt F) Unit ℕ UU ℕ cfg0 c where
  A w := m ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer's contents, as the region hands it over. -/
abbrev stg (c : Dev nD) (X : (cc0_stg0_0 : Ref sig .tc).ty.Contents (Elt F)) : sProp 𝕄 :=
  iprop(∃ f : Buf (Elt F) (outL c), ⌜f = X⌝ ∗ (outL c ↦{fullShare} f))
theorem owns_stg (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄) = stg c X := by
  unfold owns; simp only [Memref.view_whole, View.read_whole, View.set_whole]

theorem phi_first (c : Dev nD) : (dats m 0 c).Φ t0_0.castSucc = Φ₀ m c := rfl
theorem phi_last (c : Dev nD) : (dats m 0 c).Φ t0_0.succ = Φ₁ m c := rfl
theorem after_last (c : Dev nD) : (dats m 0 c).after (0 : Fin 1) t0_0 = outV m := rfl

theorem sound_done (c : Dev nD) : Tr c (iprop(Φ₀ m c ∗ (dats m 0 c).owesAt () t0_0.castSucc ∗ (∃ f, outL c ↦{fullShare} f))) (body c)
    (iprop(Φ₁ m c ∗ (dats m 0 c).owesAt () t0_0.succ ∗ (outL c ↦{fullShare} outV m))) := fun k Q => by
  unfold Φ₀ start Dat.owesAt Pipeline.owesWithin
  iintro ⟨⟨⟨⟨%K, HC⟩, HK, HX⟩, HB⟩, ⟨%W, %hW, HO⟩, Hout⟩ Hk
  iapply ((tr_body m K c) k Q) $$ [HC HK HX HB HO Hout]
  · isplitl [HC]; · iexact HC
    isplitl [HO]; · unfold ow; iexists W; iexact HO
    isplitl [HK]; · iexact HK
    isplitl [HB]; · iexact HB
    isplitl [Hout]; · iexact Hout
    iexact HX
  unfold ended Φ₁ ow
  iintro ⟨⟨%W', HO⟩, H1, H2, H3, H4, H5⟩
  iapply Hk
  isplitl [H1 H2 H3 H5]
  · isplitl [H1]; · iexact H1
    isplitl [H2]; · iexact H2
    isplitl [H3] <;> iassumption
  isplitl [HO]
  · iexists W'
    isplitr; · ipureintro; exact fun _ _ => Or.inl trivial
    iexact HO
  iexact H4

theorem sound_body (c : Dev nD) (B : Fin cfg0.N → sProp 𝕄) (hB : (B t0_0) ⊢ iprop(∃ X, owns (c : Thread nD τ) (Memref.whole cc0_stg0_0) fullShare X)) :
    (iprop((dats m 0 c).Φ t0_0.castSucc ∗ (dats m 0 c).owesAt () t0_0.castSucc ∗ B t0_0) : sProp 𝕄)
      ⊢ Wp c (bodyAt0 t0_0)
      (fun _ => iprop((dats m 0 c).Φ t0_0.succ ∗ (dats m 0 c).owesAt () t0_0.succ
        ∗ owns (c : Thread nD τ) (Memref.whole cc0_stg0_0) fullShare ((dats m 0 c).after (0 : Fin 1) t0_0))) := by
  rw [show bodyAt0 (F := F) t0_0 = _ from body_eq, phi_first, phi_last, after_last, owns_stg]
  simp only [owns_stg] at hB
  simp only [Prog.lift, Prog.bind_op, Prog.bind_ret, wp_deviceId]
  iintro ⟨H1, H2, H3⟩
  ihave H3 := hB $$ H3
  icases H3 with ⟨%X, %f, %hf, H3⟩
  iapply ((sound_done m c).done _) $$ [H1 H2 H3]
  · isplitl [H1]; · iexact H1
    isplitl [H2]; · iexact H2
    iexists f; iexact H3
  iintro ⟨H1, H2, H3⟩
  isplitl [H1]; · iexact H1
  isplitl [H2]; · iexact H2
  iexists _; isplitr; · (ipureintro; rfl)
  iexact H3

set_option maxRecDepth 100000 in
/-- The region's obligation. -/
theorem body_obligation (c : Dev nD) : BodyObligation (dats (F := F) m 0 c) (defs₀ (F := F)) 𝒱₀ () Set.univ := fun t => by
  rw [fin_N0 t]
  rw [bigSep_W0, bigSep_W0]
  exact sound_body m c (fun t => iprop(∃ d, owns (c : Thread nD τ) ((cfg0.win 0).stage (cfg0.slots t 0)) fullShare ((dats m 0 c).before 0 t d)))
    (by iintro ⟨%d, H⟩; iexists _; iexact H)

/-! ## The launch's side conditions -/

theorem ownSemFacts : Pipeline.OwnSemFacts cfg0.spec osem where
  isScoped := by decide +kernel
  inj := fun _ _ h => osem_inj h
  disj := by decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' kit ctx places payToks
  iintro ⟨HX, Hlev, Hcr, -, %K, HR, HP, ⟨T0, T1, T2, T3⟩⟩
  ihave Hc := (creds (F := F) c) $$ Hcr
  icases Hc with ⟨C0, C1⟩
  ihave HP := (Entails.of_eq (bigSep_ckey fun x : CKey => (atPos ER (kCell (c, x)) 0 ∅ 0 : sProp 𝕄))) $$ HP
  icases HP with ⟨P0, P1⟩
  imodintro
  isplitl
  · isplitl [HR Hlev]
    · iexists K
      isplitl [HR] <;> iassumption
    isplitr [HX]
    · isplitl [T0]; · iexact T0
      isplitl [C0 P0]
      · isplitl [C0]; · iexact C0
        iexact P0
      isplitl [P1]; · iexact P1
      isplitl [C1]; · iexact C1
      isplitl [T1]; · iexact T1
      isplitl [T2]; · iexact T2
      iexact T3
    iexact HX
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufs
  iintro ⟨Hs, -, HB⟩
  isplitl [Hs] <;> iassumption

/-- What a device ends its part of the run with, outside the region. -/
def left (c : Dev nD) : sProp 𝕄 :=
  iprop(unscopedSems0 c ∗ ((c : Thread nD τ).loc main_arg0 ↦{fullShare} m ((c : Thread nD τ).loc main_arg0)))

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq, ownSems0_eq]
  unfold left
  rw [unscopedSems0_eq]
  unfold Φ₁ bufs
  iintro ⟨HB, HS, HR, HX⟩
  isplitl [HB HX]
  · isplitl [HB] <;> iassumption
  isplitl [HS] <;> iassumption

theorem waits (c : Dev nD) : (levAts L lv : sProp 𝕄) ⊢ Pipeline.cellsWaits cfgs (dats m) () 0 c :=
  Pipeline.cellsWaits_intro cfgs (dats m) () 0 c fun w s t => by
    have h : lvS (.dma ((cfg0.win w).sem s)) = 0 := by
      revert w s; decide +kernel
    rcases t with ⟨_ | _, ht⟩
    · exact mayWait_launch c _ h
    · show _ ⊢ MayWait (c : Thread nD τ) _ () 0
      rw [MayWait_zero]; iintro -; iempintro

/-- What is read of a device at the end. -/
theorem left_read (c : Dev nD) (s' : Phys nD τ sig (Elt F)) :
    iprop(left m c ∗ SI s') ⊢ |={Set.univ}=> (iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') : sProp 𝕄) := by
  have hx := pointsTo_read_all (Ix := Unit) (Name := ℕ) (U := UU) (Lvl := ℕ) ({()} : Finset Unit) (fun _ => (c : Thread nD τ).loc main_arg0)
    (fun _ => m ((c : Thread nD τ).loc main_arg0)) s'
  rw [bigSep_singleton] at hx
  unfold left
  iintro ⟨⟨HB, HX⟩, HSI⟩
  ihave H := hx $$ [HX HSI]
  · isplitl [HX] <;> iassumption
  icases H with ⟨%h, HSI⟩
  imod (Pipeline.unscopedSems0_read (X := unscopedSems0 c) (c := c) fupd_intro s') $$ [HB HSI] with ⟨%h', HSI⟩
  · isplitl [HB] <;> iassumption
  imodintro
  isplitr; · ipureintro; exact ⟨h', h () (Finset.mem_singleton_self _)⟩
  iexact HSI

/-! ## The result -/

/-- The result array at the end. -/
theorem result_eq (c : Dev nD) : (dats m 0 c).arrAt (0 : Fin 1) cfg0.N = outV m := by
  have hz : (fun a => (win0_0.index t0_0) a * main_v1.ty.shape.size a) = fun _ => 0 :=
    funext fun a => by fin_cases a <;> decide
  have hr := Memref.read_access_unit_zero (Elt F) main_v1 hz (fun a => by fin_cases a <;> decide) ((dats m 0 c).arrAt (0 : Fin 1) cfg0.N)
  refine hr.symm.trans ?_
  have ho : (win0_0.blk t0_0).view.read (Elt F) ((dats m 0 c).arrAt (0 : Fin 1) cfg0.N) = outV m := by
    rw [show cfg0.N = (t0_0 : Fin cfg0.N).val + 1 from rfl, (dats m 0 c).arrAt_succ (0 : Fin 1) t0_0, flush0_0, if_pos rfl]
    exact View.read_write_univ _ _
  exact ho

set_option maxRecDepth 100000 in
/-- From any memory with zero counters every fair execution ends, with every device's result the sum, its input
    unchanged and every counter zero. -/
theorem run_main : θ_run defs (onTc (τ := τ) (main (F := F))) ⟨m, fun _ => 0, ρ⟩ (fun r =>
    (∀ c : Dev nD, r.2.mem ((c : Thread nD τ).loc main_v1) = outV m
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := fun c s' => by
      iintro ⟨Hu, -, HSI⟩
      iapply (left_read m c s')
      isplitl [Hu] <;> iassumption)
    (hQ := fun _ h hs => ⟨fun c => ⟨((h c).1 (0 : Fin 1)).trans (result_eq m c), (h c).2.2.2⟩, sem_eq_zero hs fun c => (h c).2.2.1⟩)

end Cert.AllReduce

end
-- ==== Proof.Sum.lean ====
/- The result over the extended reals: every element the sum of the eight devices' elements there,
   which is what the reference computes from the whole array. -/
module

public import proofs.«01_k».proof.Proof.Regions
public import proofs.«01_k».proof.Proof.Gen.ReferenceIdeal.Run
public import Idealize.ShloMosaic.Lib.Layout
public import Idealize.ShloMosaic.Lib.Pointwise

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-- The addition of a block to an arrived one, element by element. -/
theorem pay5_apply (X : Vec Ideal S512x512 .bf16) (Y : Vec Ideal S512x512 .bf16) (p : S512x512.Idx) :
    (k0_pay5 X (as1 Y) p : EReal) = (X p : EReal) + (Y p : EReal) := by
  have h1 : shapeCast S512x512 X shapeCasts_S512x512_S512x512 = X := shapeCast_id X _
  have h2 : shapeCast S512x512 (as1 Y) shapeCasts_S1x512x512_S512x512 p = Y p := by
    show as1 Y (Shape.reshapeEquiv _ p) = Y p
    unfold as1
    exact congrArg Y (Equiv.symm_apply_apply (Shape.reshapeEquiv squeezes_S1x512x512_S512x512.numel_eq) p)
  show (FloatOps.addf (F := Ideal) (φ := .bf16) (shapeCast S512x512 X shapeCasts_S512x512_S512x512 p)
    (shapeCast S512x512 (as1 Y) shapeCasts_S1x512x512_S512x512 p) : EReal) = _
  rw [h1, h2]
  rfl

/-- A device's element of a block: the cast loses nothing here. -/
theorem XV_apply (c k : Dev nD) (j h : Fin 2) (p : S512x512.Idx) :
    (XV m c k j h p : EReal) = (xin m c ((boxR (bOff k j h) (bOff_inb k j h)).emb p) : EReal) := rfl

/-- A partial sum of `t + 1` devices is the sum of their elements. -/
theorem S_apply (h : Fin 2) (k : Dev nD) (j : Fin 2) (p : S512x512.Idx) : ∀ t : ℕ,
    (S m h t k j p : EReal)
      = ∑ i ∈ Finset.range (t + 1), (xin m (rot h i k) ((boxR (bOff k j h) (bOff_inb k j h)).emb p) : EReal)
  | 0 => by
    rw [Finset.sum_range_one, rot_zero]
    exact XV_apply m k k j h p
  | t + 1 => by
    rw [Finset.sum_range_succ, ← S_apply h k j p t]
    exact (pay5_apply _ _ p).trans (add_comm (_ : EReal) _)

/-- Going eight places round from a device visits every device once. -/
theorem sum_round (h : Fin 2) (k : Dev nD) (f : Dev nD → EReal) :
    ∑ i ∈ Finset.range 8, f (rot h i k) = ∑ d : Dev nD, f d := by
  rw [Finset.sum_range (fun i => f (rot h i k))]
  refine Fintype.sum_bijective (fun i : Fin 8 => rot h i.val k) ?_ _ _ fun _ => rfl
  refine (Finite.injective_iff_bijective (α := Fin 8)).mp fun a b e => Fin.ext ?_
  have e' := congrArg Fin.val e
  simp only [rot_val] at e'
  have := a.isLt; have := b.isLt
  split at e' <;> omega

/-- An element of the result lies in its block at its offset. -/
theorem block_emb (i : S8192x1024.Idx) (k : Dev nD) (j h : Fin 2) (p : S512x512.Idx)
    (e0 : 1024 * k.val + 512 * j.val + (p 0).val = (i 0).val) (e1 : 512 * h.val + (p 1).val = (i 1).val) :
    (boxR (bOff k j h) (bOff_inb k j h)).emb p = i := by
  funext a
  match a with
  | ⟨0, _⟩ => exact Fin.ext ((box_emb0 k j h p).trans e0)
  | ⟨1, _⟩ => exact Fin.ext ((box_emb1 k j h p).trans e1)

/-- The result at an index: the sum over the devices of their elements there. -/
theorem outV_apply (i : S8192x1024.Idx) : (outV m i : EReal) = ∑ d : Dev nD, (xin m d i : EReal) := by
  have h0 : (i 0).val < 8192 := (i 0).isLt
  have h1 : (i 1).val < 1024 := (i 1).isLt
  refine (S_apply m _ _ _ _ 7).trans ?_
  rw [block_emb i _ _ _ _ (by show 1024 * ((i 0).val / 1024) + 512 * ((i 0).val / 512 % 2) + (i 0).val % 512 = (i 0).val; omega)
    (by show 512 * ((i 1).val / 512) + (i 1).val % 512 = (i 1).val; omega)]
  exact sum_round _ _ fun d => xin m d i

/-! ## The reference -/

/-- The whole array, read at a block of rows: the index of the array cut in eight along its rows. -/
theorem whole_idx (d : Fin 8) (i : S8192x1024.Idx)
    (hn : (⟨3, ![8, 8192, 1024]⟩ : Shape).numel = (⟨2, ![65536, 1024]⟩ : Shape).numel)
    (ht : Layout.Tiles ⟨2, ![8192, 1024]⟩ ⟨2, ![65536, 1024]⟩ 0 8) (a : Fin 8192) (b : Fin 1024)
    (ha : a.val = (i 0).val) (hb : b.val = (i 1).val) :
    Shape.reshapeEquiv hn (ix3 d a b) = ht.idx d i := by
  refine Shape.reshapeEquiv_eq_of_rowMajor hn ?_
  rw [rowMajor_val2 _ 1024 rfl, rowMajor_val3 _ (8192 * 1024) 1024 rfl rfl, (Layout.idx_rows_val ht d i).1, (Layout.idx_rows_val ht d i).2]
  show (d.val * 8192 + (i 0).val) * 1024 + (i 1).val = d.val * (8192 * 1024) + a.val * 1024 + b.val
  rw [ha, hb]
  ring

theorem reference_apply (X : (⟨2, ![65536, 1024]⟩ : Shape).Idx → Elt Ideal .f32) (i : S8192x1024.Idx)
    (ht : Layout.Tiles ⟨2, ![8192, 1024]⟩ ⟨2, ![65536, 1024]⟩ 0 8) :
    ((truncf .bf16 (Host.reduceAdd (shapeCast _ X Cert.ReferenceIdeal.Gen.shapeCasts_S65536x1024_S8x8192x1024)
      (constant Cert.ReferenceIdeal.S_ .f32 0x00000000#32) Cert.ReferenceIdeal.Gen.reducesTo_S8x8192x1024_S8192x1024_d0
      Cert.ReferenceIdeal.Gen.h_S_ : FVec Ideal S8192x1024 .f32) Cert.ReferenceIdeal.Gen.bitsLt_bf16_f32 : FVec Ideal S8192x1024 .bf16) i : EReal)
      = ∑ d : Fin 8, (X (ht.idx d i) : EReal) := by
  show (Ideal.hostReduceAdd Cert.ReferenceIdeal.Gen.reducesTo_S8x8192x1024_S8192x1024_d0
    (shapeCast Cert.ReferenceIdeal.S8x8192x1024 X Cert.ReferenceIdeal.Gen.shapeCasts_S65536x1024_S8x8192x1024)
    (Ideal.ofBits .f32 0x00000000#32) i : EReal) = _
  rw [Ideal.hostReduceAdd_r3_a0, show Ideal.ofBits .f32 0x00000000#32 = 0 from Ideal.ofBits_zero _, zero_add]
  exact Finset.sum_congr rfl fun d _ => congrArg X (whole_idx d i _ ht _ _ rfl rfl)

end Cert.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Launch
public import proofs.«01_k».proof.Proof.Sum
public import Idealize.ShloMosaic.Adequacy
public import Idealize.ShloMosaic.Init

@[expose] public section

noncomputable section

namespace Cert.Proof

open Idealize.ShloMosaic Idealize.SL.Sem

/-- The kernel's frame, at the machine's own floats: its program is the idealized one's, read there. -/
theorem frame_kernel : Cert.quiescent_Kernel := fun m g _ => by
  rw [Cert.AllReduce.run_same]
  exact (θ_run Cert.KernelIdeal.defs _ _).mono (fun _ h => ⟨fun c => (h.1 c).2, h.2⟩) (Cert.AllReduce.run_main (F := Bits) m g)

/-- The idealized kernel's frame. -/
theorem frame_ideal : Cert.quiescent_KernelIdeal := fun m g _ =>
  (θ_run Cert.KernelIdeal.defs _ _).mono (fun _ h => ⟨fun c => (h.1 c).2, h.2⟩) (Cert.AllReduce.run_main (F := Ideal) m g)

/-- The reference's frame: it has no semaphores at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Both results are, at every index, the sum over the devices of the elements there. -/
theorem algebraic : Cert.algebraic_KernelIdeal_ReferenceIdeal := fun m g m' g' _ hx =>
  ⟨Cert.AllReduce.outV m,
    (θ_run Cert.KernelIdeal.defs _ _).mono (fun _ h => h.1) (Cert.AllReduce.run_main (F := Ideal) m g),
    (θ_run Cert.ReferenceIdeal.defs _ _).mono (fun _ h => ⟨(h 0).1.trans (funext fun i =>
        (Cert.AllReduce.reference_apply _ i (by decide)).trans ((Cert.AllReduce.outV_apply m i).trans
          (Finset.sum_congr rfl fun d _ => congrFun (hx d) i)).symm), (h 0).2⟩)
      (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
